-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_ok [hPre_scale_ok : Cert.Pre_scale_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scale_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_ok [hPre_scale_ok : Cert.Pre_scale_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scale_ok [hKernelIdeal : Cert.KernelIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scale_ok [hReferenceIdeal : Cert.ReferenceIdeal.Facts] [hPre_scale_ok : Cert.Pre_scale_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scale_ok [hKernelIdeal : Cert.KernelIdeal.Facts] [hReferenceIdeal : Cert.ReferenceIdeal.Facts] [hPre_scale_ok : Cert.Pre_scale_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scale_ok : Cert.Pre_scale_ok.Facts),
    quiescent_Kernel (hKernel := hKernel)
    ∧ quiescent_KernelIdeal (hKernelIdeal := hKernelIdeal)
    ∧ quiescent_KernelIdeal_pre_scale_ok (hKernelIdeal := hKernelIdeal) (hPre_scale_ok := hPre_scale_ok)
    ∧ quiescent_ReferenceIdeal (hReferenceIdeal := hReferenceIdeal)
    ∧ quiescent_ReferenceIdeal_pre_scale_ok (hReferenceIdeal := hReferenceIdeal) (hPre_scale_ok := hPre_scale_ok)
    ∧ preserves_Kernel_KernelIdeal
    ∧ algebraic_KernelIdeal_ReferenceIdeal_pre_scale_ok (hKernelIdeal := hKernelIdeal) (hReferenceIdeal := hReferenceIdeal) (hPre_scale_ok := hPre_scale_ok)
-- ==== Pre_scale_ok.lean ====
abbrev S6x4096x768 : Shape := ⟨3, ![6, 4096, 768]⟩
abbrev S6x32768x384 : Shape := ⟨3, ![6, 32768, 384]⟩
abbrev S6x4096 : Shape := ⟨2, ![6, 4096]⟩
abbrev S16x768x384 : Shape := ⟨3, ![16, 768, 384]⟩
abbrev S384 : Shape := ⟨1, ![384]⟩
abbrev S_ : Shape := ⟨0, ![]⟩

class Facts : Prop where
  bcast_S_S6x4096 : S_.BroadcastsInDim S6x4096 (![] : Fin 0 → Fin S6x4096.rank)
  reducesTo_S6x4096_S_d0_1 : S6x4096.ReducesTo [0, 1] S_
  h_S_ : 0 < S_.numel

variable [Facts]

def fn {F : FTy → Type} [FloatOps F] (main_arg0 : FVec F S6x4096x768 .bf16) (main_arg1 : FVec F S6x32768x384 .fp8e5m2) (main_arg2 : FVec F S6x4096 .f32) (main_arg3 : FVec F S16x768x384 .fp8e4m3) (main_arg4 : FVec F S384 .f32) : IVec S_ 1 :=
  let main_cst : FVec F S_ .f32 := constant S_ .f32 0x00000000#32
  let main_v0 : FVec F S6x4096 .f32 := broadcastInDim S6x4096 ![] bcast_S_S6x4096 main_cst
  let main_v1 : IVec S6x4096 1 := cmpf .oge main_arg2 main_v0
  let main_cst_0 : FVec F S_ .f32 := constant S_ .f32 0x7F800000#32
  let main_v2 : FVec F S6x4096 .f32 := broadcastInDim S6x4096 ![] bcast_S_S6x4096 main_cst_0
  let main_v3 : IVec S6x4096 1 := cmpf .olt main_arg2 main_v2
  let main_v4 : IVec S6x4096 1 := andi main_v1 main_v3
  let main_c : IVec S_ 1 := constantI S_ 1 1#1
  let main_v5 : IVec S_ 1 := (fun x v => Host.reduce IntOp.andi x v reducesTo_S6x4096_S_d0_1 h_S_) main_v4 main_c
  main_v5
-- ==== Kernel.lean ====
abbrev S6x4096x768 : Shape := ⟨3, ![6, 4096, 768]⟩
abbrev S6x32768x384 : Shape := ⟨3, ![6, 32768, 384]⟩
abbrev S6x4096 : Shape := ⟨2, ![6, 4096]⟩
abbrev S16x768x384 : Shape := ⟨3, ![16, 768, 384]⟩
abbrev S384 : Shape := ⟨1, ![384]⟩
abbrev S1x384 : Shape := ⟨2, ![1, 384]⟩
abbrev S1x4096x384 : Shape := ⟨3, ![1, 4096, 384]⟩
abbrev S1x512x768 : Shape := ⟨3, ![1, 512, 768]⟩
abbrev S1x16x768 : Shape := ⟨3, ![1, 16, 768]⟩
abbrev S6x512 : Shape := ⟨2, ![6, 512]⟩
abbrev S3x4096x128 : Shape := ⟨3, ![3, 4096, 128]⟩
abbrev S512x3072 : Shape := ⟨2, ![512, 3072]⟩
abbrev S1536x512 : Shape := ⟨2, ![1536, 512]⟩
abbrev S2x768x3072 : Shape := ⟨3, ![2, 768, 3072]⟩
abbrev S520x768 : Shape := ⟨2, ![520, 768]⟩
abbrev S1x768x384 : Shape := ⟨3, ![1, 768, 384]⟩
abbrev S768x384 : Shape := ⟨2, ![768, 384]⟩
abbrev S8x768 : Shape := ⟨2, ![8, 768]⟩
abbrev S1x4096x128 : Shape := ⟨3, ![1, 4096, 128]⟩
abbrev S4096x128 : Shape := ⟨2, ![4096, 128]⟩
abbrev S1x512 : Shape := ⟨2, ![1, 512]⟩
abbrev S1x128 : Shape := ⟨2, ![1, 128]⟩
abbrev S128x128 : Shape := ⟨2, ![128, 128]⟩
abbrev S1x128x128 : Shape := ⟨3, ![1, 128, 128]⟩
abbrev S512x768 : Shape := ⟨2, ![512, 768]⟩
abbrev S1x8x768 : Shape := ⟨3, ![1, 8, 768]⟩
abbrev S1x768 : Shape := ⟨2, ![1, 768]⟩
abbrev S768x512 : Shape := ⟨2, ![768, 512]⟩
abbrev S1x768x3072 : Shape := ⟨3, ![1, 768, 3072]⟩
abbrev S768x3072 : Shape := ⟨2, ![768, 3072]⟩
abbrev S1536x768 : Shape := ⟨2, ![1536, 768]⟩

abbrev nBuf : Space → Nat
  | .hbm => 8
  | .vmem => 18
  | .smem => 0
  | _ => 0

abbrev bufTy : (tb : Table) → Fin (tcTables nBuf tb) → BufTy
  | .hbm, ⟨0, _⟩ => ⟨S6x4096x768, .bf16⟩
  | .hbm, ⟨1, _⟩ => ⟨S6x32768x384, .fp8e5m2⟩
  | .hbm, ⟨2, _⟩ => ⟨S6x4096, .f32⟩
  | .hbm, ⟨3, _⟩ => ⟨S16x768x384, .fp8e4m3⟩
  | .hbm, ⟨4, _⟩ => ⟨S384, .f32⟩
  | .hbm, ⟨5, _⟩ => ⟨S1x384, .f32⟩
  | .hbm, ⟨6, _⟩ => ⟨S6x4096x768, .bf16⟩
  | .hbm, ⟨7, _⟩ => ⟨S16x768x384, .f32⟩
  | .local _ .vmem, ⟨0, _⟩ => ⟨S1x4096x384, .fp8e5m2⟩
  | .local _ .vmem, ⟨1, _⟩ => ⟨S1x4096x384, .fp8e5m2⟩
  | .local _ .vmem, ⟨2, _⟩ => ⟨S1x512x768, .bf16⟩
  | .local _ .vmem, ⟨3, _⟩ => ⟨S1x512x768, .bf16⟩
  | .local _ .vmem, ⟨4, _⟩ => ⟨S1x16x768, .bf16⟩
  | .local _ .vmem, ⟨5, _⟩ => ⟨S1x16x768, .bf16⟩
  | .local _ .vmem, ⟨6, _⟩ => ⟨S6x512, .f32⟩
  | .local _ .vmem, ⟨7, _⟩ => ⟨S6x512, .f32⟩
  | .local _ .vmem, ⟨8, _⟩ => ⟨S16x768x384, .fp8e4m3⟩
  | .local _ .vmem, ⟨9, _⟩ => ⟨S1x384, .f32⟩
  | .local _ .vmem, ⟨10, _⟩ => ⟨S1x512x768, .bf16⟩
  | .local _ .vmem, ⟨11, _⟩ => ⟨S1x512x768, .bf16⟩
  | .local _ .vmem, ⟨12, _⟩ => ⟨S16x768x384, .f32⟩
  | .local _ .vmem, ⟨13, _⟩ => ⟨S3x4096x128, .f32⟩
  | .local _ .vmem, ⟨14, _⟩ => ⟨S512x3072, .bf16⟩
  | .local _ .vmem, ⟨15, _⟩ => ⟨S1536x512, .bf16⟩
  | .local _ .vmem, ⟨16, _⟩ => ⟨S2x768x3072, .bf16⟩
  | .local _ .vmem, ⟨17, _⟩ => ⟨S520x768, .f32⟩
  | _, _ => ⟨S6x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![6, 8], ![false, false]⟩

def k0_off1 (i : grid0.Coords) : Fin 2 → Nat :=
  let arg0 : BitVec 32 := BitVec.ofNat 32 (i 0).val
  let v27 : Index := Scalar.indexCast arg0
  let c0_17 : Index := 0#32
  ![v27.toNat, 0]
def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4096x384 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S16x768x384 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x768x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S6x4096x768 : Shape := ⟨3, ![6, 4096, 768]⟩
abbrev S6x32768x384 : Shape := ⟨3, ![6, 32768, 384]⟩
abbrev S6x4096 : Shape := ⟨2, ![6, 4096]⟩
abbrev S16x768x384 : Shape := ⟨3, ![16, 768, 384]⟩
abbrev S384 : Shape := ⟨1, ![384]⟩
abbrev S6x4096x8x384 : Shape := ⟨4, ![6, 4096, 8, 384]⟩
abbrev S1x1x384 : Shape := ⟨3, ![1, 1, 384]⟩
abbrev S2x8x768x384 : Shape := ⟨4, ![2, 8, 768, 384]⟩
abbrev S1x8x768x384 : Shape := ⟨4, ![1, 8, 768, 384]⟩
abbrev S8x768x384 : Shape := ⟨3, ![8, 768, 384]⟩
abbrev S6x4096x1 : Shape := ⟨3, ![6, 4096, 1]⟩
abbrev S6x4095x8x384 : Shape := ⟨4, ![6, 4095, 8, 384]⟩
abbrev S6x4095x768 : Shape := ⟨3, ![6, 4095, 768]⟩
abbrev S6x4095 : Shape := ⟨2, ![6, 4095]⟩
abbrev S6x4095x1 : Shape := ⟨3, ![6, 4095, 1]⟩
abbrev S_ : Shape := ⟨0, ![]⟩
abbrev S1 : Shape := ⟨1, ![1]⟩
abbrev S6x4096x1x1 : Shape := ⟨4, ![6, 4096, 1, 1]⟩
abbrev S8x384x768 : Shape := ⟨3, ![8, 384, 768]⟩

abbrev nBuf : Space → Nat
  | .hbm => 45
  | .vmem => 4
  | .smem => 0
  | _ => 0

abbrev bufTy : (tb : Table) → Fin (tcTables nBuf tb) → BufTy
  | .hbm, ⟨0, _⟩ => ⟨S6x4096x768, .bf16⟩
  | .hbm, ⟨1, _⟩ => ⟨S6x32768x384, .fp8e5m2⟩
  | .hbm, ⟨2, _⟩ => ⟨S6x4096, .f32⟩
  | .hbm, ⟨3, _⟩ => ⟨S16x768x384, .fp8e4m3⟩
  | .hbm, ⟨4, _⟩ => ⟨S384, .f32⟩
  | .hbm, ⟨5, _⟩ => ⟨S6x32768x384, .bf16⟩
  | .hbm, ⟨6, _⟩ => ⟨S16x768x384, .bf16⟩
  | .hbm, ⟨7, _⟩ => ⟨S6x4096x8x384, .bf16⟩
  | .hbm, ⟨8, _⟩ => ⟨S384, .bf16⟩
  | .hbm, ⟨9, _⟩ => ⟨S1x1x384, .bf16⟩
  | .hbm, ⟨10, _⟩ => ⟨S16x768x384, .bf16⟩
  | .hbm, ⟨11, _⟩ => ⟨S16x768x384, .bf16⟩
  | .hbm, ⟨12, _⟩ => ⟨S2x8x768x384, .bf16⟩
  | .hbm, ⟨13, _⟩ => ⟨S1x8x768x384, .bf16⟩
  | .hbm, ⟨14, _⟩ => ⟨S8x768x384, .bf16⟩
  | .hbm, ⟨15, _⟩ => ⟨S6x4096x768, .f32⟩
  | .hbm, ⟨16, _⟩ => ⟨S6x4096x1, .f32⟩
  | .hbm, ⟨17, _⟩ => ⟨S6x4096x768, .f32⟩
  | .hbm, ⟨18, _⟩ => ⟨S6x4096x768, .f32⟩
  | .hbm, ⟨19, _⟩ => ⟨S6x4095x8x384, .bf16⟩
  | .hbm, ⟨20, _⟩ => ⟨S1x8x768x384, .bf16⟩
  | .hbm, ⟨21, _⟩ => ⟨S8x768x384, .bf16⟩
  | .hbm, ⟨22, _⟩ => ⟨S6x4095x768, .f32⟩
  | .hbm, ⟨23, _⟩ => ⟨S6x4095, .f32⟩
  | .hbm, ⟨24, _⟩ => ⟨S6x4095x1, .f32⟩
  | .hbm, ⟨25, _⟩ => ⟨S6x4095x768, .f32⟩
  | .hbm, ⟨26, _⟩ => ⟨S6x4095x768, .f32⟩
  | .hbm, ⟨27, _⟩ => ⟨S_, .i32⟩
  | .hbm, ⟨28, _⟩ => ⟨S1, .i32⟩
  | .hbm, ⟨29, _⟩ => ⟨S6x4096x768, .f32⟩
  | .hbm, ⟨30, _⟩ => ⟨S6x4096x768, .bf16⟩
  | .hbm, ⟨31, _⟩ => ⟨S6x4096, .bf16⟩
  | .hbm, ⟨32, _⟩ => ⟨S6x4096x1x1, .bf16⟩
  | .hbm, ⟨33, _⟩ => ⟨S6x4096x8x384, .bf16⟩
  | .hbm, ⟨34, _⟩ => ⟨S6x4096x8x384, .bf16⟩
  | .hbm, ⟨35, _⟩ => ⟨S8x384x768, .f32⟩
  | .hbm, ⟨36, _⟩ => ⟨S8x768x384, .f32⟩
  | .hbm, ⟨37, _⟩ => ⟨S6x4095x768, .bf16⟩
  | .hbm, ⟨38, _⟩ => ⟨S6x4095x8x384, .bf16⟩
  | .hbm, ⟨39, _⟩ => ⟨S8x384x768, .f32⟩
  | .hbm, ⟨40, _⟩ => ⟨S8x768x384, .f32⟩
  | .hbm, ⟨41, _⟩ => ⟨S1x8x768x384, .f32⟩
  | .hbm, ⟨42, _⟩ => ⟨S1x8x768x384, .f32⟩
  | .hbm, ⟨43, _⟩ => ⟨S2x8x768x384, .f32⟩
  | .hbm, ⟨44, _⟩ => ⟨S16x768x384, .f32⟩
  | .local _ .vmem, ⟨0, _⟩ => ⟨S6x32768x384, .fp8e5m2⟩
  | .local _ .vmem, ⟨1, _⟩ => ⟨S16x768x384, .fp8e4m3⟩
  | .local _ .vmem, ⟨2, _⟩ => ⟨S6x32768x384, .bf16⟩
  | .local _ .vmem, ⟨3, _⟩ => ⟨S16x768x384, .bf16⟩
  | _, _ => ⟨S6x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x32768x384 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768x384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x32768x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Grad.lean ====
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Pipeline.ReadBack

/-!
  A tile's gradient as one grid point holds it: widened, scaled frame by frame and laid out with a frame's eight steps side by side.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

/-- One tile's scaled gradient: row `r`, column `p * 384 + o` holds the gradient of sample `8 * r + p`, channel `o`,
    times frame `r`'s scale. -/
def gsc (x0 : FVec Ideal S1x4096x384 .fp8e5m2) (sr : FVec Ideal S1x512 .f32) : FVec Ideal S512x3072 .bf16 := fun y =>
  x0 (ix3 0 ⟨8 * (y 0).val + (y 1).val / 384, by idx_bounds; omega⟩ ⟨(y 1).val % 384, by omega⟩)
    * sr (ix2 0 ⟨(y 0).val, by idx_bounds; omega⟩)

section Widened

variable (c : Dev nD) (arg2 : Memref sig .tc .vmem S1x4096x384 .fp8e5m2) (harg2 : arg2.IsWhole)
  (x0 : FVec Ideal S1x4096x384 .fp8e5m2)

/-- The widened copy of the gradient: lane block `o` of the copy is channels `128 * o ..` of the block. -/
theorem wide_at (y : S3x4096x128.Idx) :
    View.canon (kernelRun0_B.sl.HS0_3 (F := Ideal) c arg2 harg2 x0) y
      = x0 (ix3 0 ⟨(y 1).val, by idx_bounds; omega⟩ ⟨128 * (y 0).val + (y 2).val, by idx_bounds; omega⟩) := by
  unfold kernelRun0_B.sl.HS0_3
  canon_tiles x h
  all_goals
    open_payloads
    pointwise
    rw [Memref.IsWhole.read_unread]
    blk_ext

/-- A strided read of the widened copy: every eighth sample from `q`, of lane block `o`. -/
theorem strided_at (arg10 : Memref sig .tc .vmem S3x4096x128 .f32) (o q : ℕ)
    (inb : ∀ a : Fin S3x4096x128.rank, S1x128x128.size a = 0 ∨ (![o, q, 0] : Fin 3 → ℕ) a + (![1, 8, 1] : Fin 3 → ℕ) a * (S1x128x128.size a - 1) < S3x4096x128.size a)
    (x : S1x128x128.Idx) (ho : o < 3) (hq : q < 3080) :
    arg10.view.readCov (kernelRun0_B.sl.HS0_3 (F := Ideal) c arg2 harg2 x0)
        ⟨![o, q, 0], S1x128x128.size, ![1, 8, 1], inb⟩ x
      = x0 (ix3 0 ⟨q + 8 * (x 1).val, by idx_bounds; omega⟩ ⟨128 * o + (x 2).val, by idx_bounds; omega⟩) := by
  rw [View.readCov_eq_canon']
  refine (wide_at c arg2 harg2 x0 _).trans ?_
  refine congrArg x0 (funext fun a => Fin.ext ?_)
  match a with
  | ⟨0, _⟩ => rfl
  | ⟨1, _⟩ => rfl
  | ⟨2, _⟩ =>
    refine Eq.trans (b := 128 * (o + 1 * (x 0).val) + (0 + 1 * (x 2).val)) rfl (Eq.trans (b := 128 * o + (x 2).val) ?_ rfl)
    idx_bounds
    omega

end Widened

/-- One piece's arithmetic: the strided read times the row's scale. -/
theorem tile_pw (a0 : ℕ) (sr : FVec Ideal S1x512 .f32) (v : FVec Ideal S1x128x128 .f32)
    (hc : S1x128x128.ShapeCasts S128x128) (hs : S1x512.Slices ![0, a0] S1x128) (hb : S1x128.Broadcasts S128x128)
    (hsc : S1x128.ShapeCasts S1x128) (htr : S128x128.Transposes [1, 0] S128x128)
    (hsc' : S128x128.ShapeCasts S128x128) (hbit) (ha : a0 + 128 ≤ 512)
    (x : S128x128.Idx) :
    shapeCast S128x128 (truncf (F := Ideal) .bf16 (mulf (shapeCast S128x128 v hc)
      (transpose S128x128 [1, 0] (broadcastTo S128x128 (shapeCast S1x128 (extractStridedSlice S1x128 ![0, a0] sr hs) hsc) hb) htr))
      hbit) hsc' x
      = v (ix3 0 (x 0) (x 1)) * sr (ix2 0 ⟨a0 + (x 0).val, by idx_bounds; omega⟩) := by
  pointwise

section Scaled

variable (c : Dev nD) (i : grid0.Coords) (arg2 : Memref sig .tc .vmem S1x4096x384 .fp8e5m2) (harg2 : arg2.IsWhole)
  (arg5 : Memref sig .tc .vmem S6x512 .f32) (harg5 : arg5.IsWhole) (arg10 : Memref sig .tc .vmem S3x4096x128 .f32)
  (x0 : FVec Ideal S1x4096x384 .fp8e5m2) (x3 : FVec Ideal S6x512 .f32)

/-- One 128 by 128 piece of the scaled gradient. -/
theorem tile (o q a0 c0 : ℕ) (sr : FVec Ideal S1x512 .f32)
    (inb : ∀ a : Fin S3x4096x128.rank, S1x128x128.size a = 0 ∨ (![o, q, 0] : Fin 3 → ℕ) a + (![1, 8, 1] : Fin 3 → ℕ) a * (S1x128x128.size a - 1) < S3x4096x128.size a)
    (inb' : ∀ a, (![a0, c0] : Fin 2 → ℕ) a + S128x128.size a ≤ S512x3072.size a)
    (hc : S1x128x128.ShapeCasts S128x128) (hs : S1x512.Slices ![0, a0] S1x128) (hb : S1x128.Broadcasts S128x128)
    (hsc : S1x128.ShapeCasts S1x128) (htr : S128x128.Transposes [1, 0] S128x128)
    (hsc' : S128x128.ShapeCasts S128x128) (hbit)
    (x : S128x128.Idx) (ho : o < 3) (hq : q = 8 * a0 + (c0 / 384)) (hc0 : c0 % 384 = 128 * o) :
    shapeCast S128x128 (truncf (F := Ideal) .bf16 (mulf (shapeCast S128x128
        (arg10.view.readCov (kernelRun0_B.sl.HS0_3 (F := Ideal) c arg2 harg2 x0)
        ⟨![o, q, 0], S1x128x128.size, ![1, 8, 1], inb⟩) hc)
      (transpose S128x128 [1, 0] (broadcastTo S128x128 (shapeCast S1x128 (extractStridedSlice S1x128 ![0, a0] sr hs) hsc) hb) htr))
      hbit) hsc' x
      = gsc x0 sr ((Rect.unit (s := S512x3072) ![a0, c0] S128x128.size inb').emb x) := by
  idx_bounds
  have := inb' 0
  have := inb' 1
  have h0 : a0 + 128 ≤ 512 := inb' 0
  refine (tile_pw a0 sr _ hc hs hb hsc htr hsc' hbit h0 x).trans ?_
  rw [strided_at c arg2 harg2 x0 arg10 o q inb _ ho (by have h1 : c0 + 128 ≤ 3072 := inb' 1; omega)]
  unfold gsc
  refine congrArg₂ (· * ·) ?_ ?_
  · blk_ext
  · blk_ext

/-- The scaled gradient's buffer, however it was filled: the 96 pieces are one array. -/
theorem gs_at (y : S512x3072.Idx) :
    View.canon (kernelRun0_B.sl.HS1_96 (F := Ideal) c i arg2 harg2 arg5 harg5 arg10 x0 x3) y
      = gsc x0 (kernelRun0_B.sl.r (F := Ideal) c i arg5 harg5 x3) y := by
  refine View.canon_apply_of_pieces _ _ (View.PiecesOf.mem ?_) y
    (View.cover_of_tiled_head _ _ _ (by rfl) y)
  unfold kernelRun0_B.sl.HS1_96
  repeat' apply And.intro
  all_goals try trivial
  all_goals intro x
  all_goals
    exact tile c arg2 harg2 arg10 x0 _ _ _ _ _ (by decide) (by decide) shapeCasts_S1x128x128_S128x128 (by decide)
      broadcasts_S1x128_S128x128 shapeCasts_S1x128_S1x128 transposes_S128x128_p1_0_S128x128 shapeCasts_S128x128_S128x128
      bitsLt_bf16_f32 x (by decide) (by decide) (by decide)

end Scaled

end Cert.KernelIdeal.Val

end
-- ==== Proof.Inputs.lean ====
module

public import proofs.«01_k».proof.Proof.Grad
public import Idealize.ShloMosaic.Lib.WholeRead

/-!
  The input as one grid point holds it: the tile and the same tile moved one frame down, both transposed.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

/-- The input's tile and the same tile moved one frame down, transposed: row `a` holds channel `a`, row `768 + a`
    channel `a` one frame earlier, the first frame of which is the previous tile's last (nothing at tile zero). -/
def xtp (z : BitVec 32) (x1 : FVec Ideal S1x512x768 .bf16) (x2 : FVec Ideal S1x16x768 .bf16) :
    FVec Ideal S1536x512 .bf16 := fun y =>
  if h : (y 0).val < 768 then x1 (ix3 0 ⟨(y 1).val, by idx_bounds; omega⟩ ⟨(y 0).val, h⟩)
  else if (y 1).val = 0 then
    if z = 0#32 then 0 else x2 (ix3 0 ⟨15, by omega⟩ ⟨(y 0).val - 768, by idx_bounds; omega⟩)
  else x1 (ix3 0 ⟨(y 1).val - 1, by idx_bounds; omega⟩ ⟨(y 0).val - 768, by idx_bounds; omega⟩)

/-- The tile transposed. -/
theorem pay142_pw (v : FVec Ideal S1x512x768 .bf16) (x : S768x512.Idx) :
    k0_pay142 (F := Ideal) v x = v (ix3 0 (x 1) (x 0)) := by
  pointwise [k0_pay142, k0_pay141]

/-- A row's number compared with zero. -/
theorem cmp_zero (n : ℕ) (h : n < 512) :
    (n = 0 → IntOp.cmpi .eq (BitVec.ofNat 32 n) 0#32 = 1#1) ∧ (¬ n = 0 → IntOp.cmpi .eq (BitVec.ofNat 32 n) 0#32 = 0#1) := by
  refine ⟨fun e => by rw [e]; rfl, fun e => ?_⟩
  have hne : BitVec.ofNat 32 n ≠ 0#32 := by
    intro e1
    have e2 := congrArg BitVec.toNat e1
    simp at e2
    omega
  show BitVec.ofBool (BitVec.ofNat 32 n == 0#32) = 0#1
  rw [beq_eq_false_iff_ne.mpr hne]
  rfl

/-- The tile moved one frame down, transposed. -/
theorem pay143_pw (z : BitVec 32) (v : FVec Ideal S1x512x768 .bf16) (v' : FVec Ideal S1x8x768 .bf16) (x : S768x512.Idx) :
    k0_pay143 (F := Ideal) z v v' x
      = if (x 1).val = 0 then if z = 0#32 then 0 else v' (ix3 0 7 (x 0))
        else v (ix3 0 ⟨(x 1).val - 1, by idx_bounds; omega⟩ (x 0)) := by
  pointwise [k0_pay143, k0_pay141]
  idx_bounds
  by_cases h : (x 1).val = 0
  · rw [if_pos h, (cmp_zero _ (by omega)).1 h]
    refine (if_pos rfl).trans ?_
    by_cases hz : z = 0#32
    · rw [if_pos hz, hz]
      exact if_pos rfl
    · rw [if_neg hz]
      refine if_neg ?_
      show ¬ BitVec.ofBool (z == 0#32) = 1
      rw [beq_eq_false_iff_ne.mpr hz]
      decide
  · rw [if_neg h, (cmp_zero _ (by omega)).2 h]
    refine (if_neg (by decide)).trans (congrArg v ?_)
    blk_ext

section Moved

variable (c : Dev nD) (i : grid0.Coords) (arg3 : Memref sig .tc .vmem S1x512x768 .bf16) (harg3 : arg3.IsWhole)
  (arg4 : Memref sig .tc .vmem S1x16x768 .bf16) (harg4 : arg4.IsWhole) (arg12 : Memref sig .tc .vmem S1536x512 .bf16)
  (x1 : FVec Ideal S1x512x768 .bf16) (x2 : FVec Ideal S1x16x768 .bf16)

/-- The buffer's upper half. -/
theorem xt_hi (x : S768x512.Idx) :
    k0_pay143 (F := Ideal) (kernelRun0_B.sl.v0 i)
      (View.readAt (Elt Ideal) arg3.view (Rect.unit ![0, 0, 0] S1x512x768.size inb_S1x512x768_S1x512x768_0_0_0).toLoadRect (harg3.unread x1))
      (View.readAt (Elt Ideal) arg4.view (Rect.unit (s := S1x16x768) ![0, 8, 0] S1x8x768.size inb_S1x16x768_S1x8x768_0_8_0).toLoadRect (harg4.unread x2)) x
      = xtp (kernelRun0_B.sl.v0 i) x1 x2 ((Rect.unit (s := S1536x512) ![768, 0] S768x512.size inb_S1536x512_S768x512_768_0).emb x) := by
  refine (pay143_pw _ _ _ x).trans ?_
  rw [Memref.IsWhole.readAt_unread, Memref.IsWhole.readAt_unread]
  have e0 : (((Rect.unit (s := S1536x512) ![768, 0] S768x512.size inb_S1536x512_S768x512_768_0).emb x) 0).val = 768 + 1 * (x 0).val := rfl
  have e1 : (((Rect.unit (s := S1536x512) ![768, 0] S768x512.size inb_S1536x512_S768x512_768_0).emb x) 1).val = 0 + 1 * (x 1).val := rfl
  unfold xtp
  rw [dif_neg (by rw [e0]; omega)]
  by_cases h : (x 1).val = 0
  · have e1' : (((Rect.unit (s := S1536x512) ![768, 0] S768x512.size inb_S1536x512_S768x512_768_0).emb x) 1).val = 0 := by omega
    rw [if_pos h]
    refine Eq.trans ?_ (if_pos e1').symm
    by_cases hz : kernelRun0_B.sl.v0 i = 0#32
    · rw [if_pos hz, if_pos hz]
    · rw [if_neg hz, if_neg hz]
      refine congrArg x2 (funext fun a => Fin.ext ?_)
      match a with
      | ⟨0, _⟩ => rfl
      | ⟨1, _⟩ => rfl
      | ⟨2, _⟩ => exact (show 0 + 1 * (x 0).val = (((Rect.unit (s := S1536x512) ![768, 0] S768x512.size inb_S1536x512_S768x512_768_0).emb x) 0).val - 768 by omega)
  · have e1' : ¬ (((Rect.unit (s := S1536x512) ![768, 0] S768x512.size inb_S1536x512_S768x512_768_0).emb x) 1).val = 0 := by omega
    rw [if_neg h]
    refine Eq.trans ?_ (if_neg e1').symm
    refine congrArg x1 (funext fun a => Fin.ext ?_)
    match a with
    | ⟨0, _⟩ => rfl
    | ⟨1, _⟩ => exact (show 0 + 1 * ((x 1).val - 1) = (((Rect.unit (s := S1536x512) ![768, 0] S768x512.size inb_S1536x512_S768x512_768_0).emb x) 1).val - 1 by omega)
    | ⟨2, _⟩ => exact (show 0 + 1 * (x 0).val = (((Rect.unit (s := S1536x512) ![768, 0] S768x512.size inb_S1536x512_S768x512_768_0).emb x) 0).val - 768 by omega)

/-- The buffer's lower half. -/
theorem xt_lo (x : S768x512.Idx) :
    k0_pay142 (F := Ideal)
      (View.readAt (Elt Ideal) arg3.view (Rect.unit ![0, 0, 0] S1x512x768.size inb_S1x512x768_S1x512x768_0_0_0).toLoadRect (harg3.unread x1)) x
      = xtp (kernelRun0_B.sl.v0 i) x1 x2 ((Rect.unit (s := S1536x512) ![0, 0] S768x512.size inb_S1536x512_S768x512_0_0).emb x) := by
  refine (pay142_pw _ x).trans ?_
  rw [Memref.IsWhole.readAt_unread]
  idx_bounds
  have e0 : (((Rect.unit (s := S1536x512) ![0, 0] S768x512.size inb_S1536x512_S768x512_0_0).emb x) 0).val = 0 + 1 * (x 0).val := rfl
  have e1 : (((Rect.unit (s := S1536x512) ![0, 0] S768x512.size inb_S1536x512_S768x512_0_0).emb x) 1).val = 0 + 1 * (x 1).val := rfl
  unfold xtp
  rw [dif_pos (by rw [e0]; omega)]
  refine congrArg x1 (funext fun a => Fin.ext ?_)
  match a with
  | ⟨0, _⟩ => rfl
  | ⟨1, _⟩ => exact e1.symm
  | ⟨2, _⟩ => exact e0.symm

/-- The transposed tile's buffer. -/
theorem xt_at (y : S1536x512.Idx) :
    View.canon (kernelRun0_B.sl.HS2_2 (F := Ideal) c i arg3 harg3 arg4 harg4 x1 x2) y = xtp (kernelRun0_B.sl.v0 i) x1 x2 y := by
  refine View.canon_apply_of_pieces _ _ (View.PiecesOf.mem ?_) y
    (View.cover_of_tiled_head _ _ _ (by rfl) y)
  unfold kernelRun0_B.sl.HS2_2
  exact ⟨fun x => xt_hi i arg3 harg3 arg4 harg4 x1 x2 x, fun x => xt_lo i arg3 harg3 x1 x2 x, trivial⟩

/-- The transposed tile read back. -/
theorem v763_eq : kernelRun0_B.sl.v763 (F := Ideal) c i arg3 harg3 arg4 harg4 arg12 x1 x2 = xtp (kernelRun0_B.sl.v0 i) x1 x2 := by
  funext y
  unfold kernelRun0_B.sl.v763
  rw [View.readCov_eq_canon']
  refine (xt_at c i arg3 harg3 arg4 harg4 x1 x2 _).trans ?_
  refine congrArg _ (funext fun a => Fin.ext ?_)
  match a with
  | ⟨0, _⟩ => show 0 + 1 * (y 0).val = (y 0).val; omega
  | ⟨1, _⟩ => show 0 + 1 * (y 1).val = (y 1).val; omega

end Moved

section Same

variable (c : Dev nD) (i : grid0.Coords) (arg2 : Memref sig .tc .vmem S1x4096x384 .fp8e5m2) (harg2 : arg2.IsWhole)
  (arg5 : Memref sig .tc .vmem S6x512 .f32) (harg5 : arg5.IsWhole) (arg10 : Memref sig .tc .vmem S3x4096x128 .f32)
  (arg11 : Memref sig .tc .vmem S512x3072 .bf16)
  (x0 : FVec Ideal S1x4096x384 .fp8e5m2) (x3 : FVec Ideal S6x512 .f32)

/-- The scaled gradient's pieces are the same in all three cases. -/
theorem gsA : kernelRun0_A.sl.HS1_96 (F := Ideal) c i arg2 harg2 arg5 harg5 arg10 x0 x3
    = kernelRun0_B.sl.HS1_96 (F := Ideal) c i arg2 harg2 arg5 harg5 arg10 x0 x3 := rfl

/-- The scaled gradient's pieces are the same in all three cases. -/
theorem gsC : kernelRun0_C.sl.HS1_96 (F := Ideal) c i arg2 harg2 arg5 harg5 arg10 x0 x3
    = kernelRun0_B.sl.HS1_96 (F := Ideal) c i arg2 harg2 arg5 harg5 arg10 x0 x3 := rfl

/-- The whole scaled gradient read back. -/
theorem v743_eq : kernelRun0_B.sl.v743 (F := Ideal) c i arg2 harg2 arg5 harg5 arg10 arg11 x0 x3
    = gsc x0 (kernelRun0_B.sl.r (F := Ideal) c i arg5 harg5 x3) := by
  funext y
  unfold kernelRun0_B.sl.v743
  rw [View.readCov_eq_canon']
  refine (gs_at c i arg2 harg2 arg5 harg5 arg10 x0 x3 _).trans ?_
  refine congrArg _ (funext fun a => Fin.ext ?_)
  match a with
  | ⟨0, _⟩ => show 0 + 1 * (y 0).val = (y 0).val; omega
  | ⟨1, _⟩ => show 0 + 1 * (y 1).val = (y 1).val; omega

/-- The first slab of columns of the scaled gradient. -/
theorem v764_at (y : S512x768.Idx) : kernelRun0_B.sl.v764 (F := Ideal) c i arg2 harg2 arg5 harg5 arg10 arg11 x0 x3 y
    = gsc x0 (kernelRun0_B.sl.r (F := Ideal) c i arg5 harg5 x3) (ix2 (y 0) ⟨0 + (y 1).val, by idx_bounds; omega⟩) := by
  unfold kernelRun0_B.sl.v764
  rw [View.readCov_eq_canon']
  refine (gs_at c i arg2 harg2 arg5 harg5 arg10 x0 x3 _).trans ?_
  refine congrArg _ (funext fun a => Fin.ext ?_)
  match a with
  | ⟨0, _⟩ => show 0 + 1 * (y 0).val = (y 0).val; omega
  | ⟨1, _⟩ => show 0 + 1 * (y 1).val = 0 + (y 1).val; omega

end Same
-- ==== Proof.Taps.lean ====
module

public import proofs.«01_k».proof.Proof.Grad
public import Idealize.ShloMosaic.Lib.WholeRead

/-!
  The taps' buffer as the first grid point fills it: each weight times its output channel's scale, the sixteen taps as two rows of eight.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

/-- The kernel's two taps, laid out for the products: tap `t`, input channel `a`, column `p * 384 + o` holds row
    `8 * t + p` of the codes at channel `o`, times that channel's scale. -/
def wtp (x4 : FVec Ideal S16x768x384 .fp8e4m3) (x5 : FVec Ideal S1x384 .f32) : FVec Ideal S2x768x3072 .bf16 := fun y =>
  x4 (ix3 ⟨8 * (y 0).val + (y 2).val / 384, by idx_bounds; omega⟩ ⟨(y 1).val, by idx_bounds; omega⟩ ⟨(y 2).val % 384, by omega⟩)
    * x5 (ix2 0 ⟨(y 2).val % 384, by omega⟩)

/-- One row's arithmetic: the widened codes times the channel scales. -/
theorem wtile_pw (v : FVec Ideal S1x768x384 .fp8e4m3) (cs : FVec Ideal S1x384 .bf16)
    (hc : S1x768x384.ShapeCasts S768x384) (hc' : S768x384.ShapeCasts S1x768x384) (hb : S1x384.Broadcasts S768x384)
    (hbit : FTy.bits .fp8e4m3 < FTy.bits .bf16) (x : S1x768x384.Idx) :
    shapeCast S1x768x384 (mulf (extf (F := Ideal) .bf16 (shapeCast S768x384 v hc) hbit) (broadcastTo S768x384 cs hb)) hc' x
      = v (ix3 0 (x 1) (x 2)) * cs (ix2 0 (x 2)) := by
  pointwise
  refine congrArg₂ (· * ·) (congrArg v ?_) rfl
  blk_ext

section Widened

variable (c : Dev nD) (arg6 : Memref sig .tc .vmem S16x768x384 .fp8e4m3) (harg6 : arg6.IsWhole)
  (arg7 : Memref sig .tc .vmem S1x384 .f32) (harg7 : arg7.IsWhole)
  (x4 : FVec Ideal S16x768x384 .fp8e4m3) (x5 : FVec Ideal S1x384 .f32)

/-- The channel scales as the first point reads them. -/
theorem chan_at (y : S1x384.Idx) : kernelRun0_A.sl.r (F := Ideal) c arg7 harg7 x5 y = x5 y := by
  unfold kernelRun0_A.sl.r
  pointwise [k0_pay2]
  rw [Memref.IsWhole.readAt_unread]
  refine congrArg x5 (funext fun a => Fin.ext ?_)
  match a with
  | ⟨0, _⟩ => show 0 + 1 * (y 0).val = (y 0).val; omega
  | ⟨1, _⟩ => show 0 + 1 * (y 1).val = (y 1).val; omega

/-- One of the sixteen rows of the kernel, scaled: what the first point stores into its slot of the taps. -/
theorem wtile (k t c0 : ℕ) (cs : FVec Ideal S1x384 .bf16) (hcs : ∀ y, cs y = x5 y)
    (inb : ∀ a : Fin S16x768x384.rank, (![k, 0, 0] : Fin 3 → ℕ) a + S1x768x384.size a ≤ S16x768x384.size a)
    (inb' : ∀ a : Fin S2x768x3072.rank, (![t, 0, c0] : Fin 3 → ℕ) a + S1x768x384.size a ≤ S2x768x3072.size a)
    (hc : S1x768x384.ShapeCasts S768x384) (hc' : S768x384.ShapeCasts S1x768x384) (hb : S1x384.Broadcasts S768x384)
    (hbit : FTy.bits .fp8e4m3 < FTy.bits .bf16)
    (x : S1x768x384.Idx) (h0 : c0 % 384 = 0) (hk : k = 8 * t + c0 / 384) :
    shapeCast S1x768x384 (mulf (extf (F := Ideal) .bf16 (shapeCast S768x384
        (View.readAt (Elt Ideal) arg6.view (Rect.unit (s := S16x768x384) ![k, 0, 0] S1x768x384.size inb).toLoadRect (harg6.unread x4)) hc
          : FVec Ideal S768x384 .fp8e4m3) hbit)
      (broadcastTo S768x384 cs hb)) hc' x
      = wtp x4 x5 ((Rect.unit (s := S2x768x3072) ![t, 0, c0] S1x768x384.size inb').emb x) := by
  idx_bounds
  refine (wtile_pw _ cs hc hc' hb hbit x).trans ?_
  rw [Memref.IsWhole.readAt_unread, hcs]
  have h1 : c0 + 384 ≤ 3072 := inb' 2
  have h2 : t + 1 ≤ 2 := inb' 0
  have e2 : (((Rect.unit (s := S2x768x3072) ![t, 0, c0] S1x768x384.size inb').emb x) 2).val = c0 + 1 * (x 2).val := rfl
  have e1 : (((Rect.unit (s := S2x768x3072) ![t, 0, c0] S1x768x384.size inb').emb x) 1).val = 0 + 1 * (x 1).val := rfl
  have e0 : (((Rect.unit (s := S2x768x3072) ![t, 0, c0] S1x768x384.size inb').emb x) 0).val = t + 1 * (x 0).val := rfl
  unfold wtp
  refine congrArg₂ (· * ·) (congrArg x4 (funext fun a => Fin.ext ?_)) (congrArg x5 (funext fun a => Fin.ext ?_))
  · match a with
    | ⟨0, _⟩ => exact (show k + 1 * 0 = 8 * _ + _ / 384 by rw [e0, e2]; omega)
    | ⟨1, _⟩ => exact e1.symm
    | ⟨2, _⟩ => exact (show 0 + 1 * (x 2).val = _ % 384 by rw [e2]; omega)
  · match a with
    | ⟨0, _⟩ => rfl
    | ⟨1, _⟩ => exact (show (x 2).val = _ % 384 by rw [e2]; omega)

/-- The taps' buffer after the first point: the sixteen pieces are one array. -/
theorem wt_at (y : S2x768x3072.Idx) :
    View.canon (kernelRun0_A.sl.HS3_16 (F := Ideal) c arg6 harg6 arg7 harg7 x4 x5) y = wtp x4 x5 y := by
  refine View.canon_apply_of_pieces _ _ (View.PiecesOf.mem ?_) y
    (View.cover_of_tiled_head _ _ _ (by rfl) y)
  unfold kernelRun0_A.sl.HS3_16
  repeat' apply And.intro
  all_goals try trivial
  all_goals intro x
  all_goals
    exact wtile arg6 harg6 x4 x5 _ _ _ (kernelRun0_A.sl.r (F := Ideal) c arg7 harg7 x5) (chan_at c arg7 harg7 x5) (by decide) (by decide)
      shapeCasts_S1x768x384_S768x384 shapeCasts_S768x384_S1x768x384 broadcasts_S1x384_S768x384 (by decide) x (by decide) (by decide)

end Widened

end Cert.KernelIdeal.Val

end
-- ==== Proof.Dots.lean ====
module

public import proofs.«01_k».proof.Proof.Inputs
public import proofs.«01_k».proof.Proof.Taps
public import Idealize.ShloMosaic.Lib.WholeRead

/-!
  The matrix products of one grid point, read at an index: the two taps' products and the accumulated products of the kernel's gradient.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

/-- One point's products for the kernel's gradient: row `k`, channel `a`, column `o` holds the sum over the tile's frames
    of the input (shifted one frame for the rows from 8 on) times the scaled gradient. -/
def dwp (X : FVec Ideal S1536x512 .bf16) (G : FVec Ideal S512x3072 .bf16) : FVec Ideal S16x768x384 .f32 := fun y =>
  ∑ r : Fin 512, X (ix2 ⟨768 * ((y 0).val / 8) + (y 1).val, by idx_bounds; omega⟩ r)
    * G (ix2 r ⟨384 * ((y 0).val % 8) + (y 2).val, by idx_bounds; omega⟩)

/-- One point's products for the input's gradient: frame `r`, channel `a`, the sum over the taps' columns. -/
def yt (G : FVec Ideal S512x3072 .bf16) (w : FVec Ideal S1x768x3072 .bf16) : FVec Ideal S512x768 .f32 := fun y =>
  ∑ q : Fin 3072, G (ix2 (y 0) q) * w (ix3 0 (y 1) q)

/-- The second tap's product. -/
theorem pay144_pw (G : FVec Ideal S512x3072 .bf16) (w : FVec Ideal S1x768x3072 .bf16) (y : S512x768.Idx) :
    k0_pay145 (F := Ideal) (k0_pay144 (F := Ideal) G w) y = yt G w y := by
  pointwise [k0_pay145, k0_pay144]
  rfl

/-- What a point stores of the input's gradient: the first tap's product and what it read of the second's. -/
theorem pay146_pw (G : FVec Ideal S512x3072 .bf16) (w : FVec Ideal S1x768x3072 .bf16) (v : FVec Ideal S512x768 .f32)
    (y : S1x512x768.Idx) :
    k0_pay146 (F := Ideal) G w v y = yt G w (ix2 (y 1) (y 2)) + v (ix2 (y 1) (y 2)) := by
  pointwise [k0_pay146]
  rfl

/-- One kernel row's update: what was there and the row's part of the product. -/
theorem dw_pw (acc : FVec Ideal S1x768x384 .f32) (X : FVec Ideal S1536x512 .bf16) (g : FVec Ideal S512x768 .bf16) (a b : ℕ)
    (hs : S1536x768.Slices ![a, b] S768x384) (hc : S1x768x384.ShapeCasts S768x384) (hc' : S768x384.ShapeCasts S1x768x384)
    (ha : a + 768 ≤ 1536) (hb : b + 384 ≤ 768) (x : S1x768x384.Idx) :
    shapeCast S1x768x384 (addf (F := Ideal) (shapeCast S768x384 acc hc) (extractStridedSlice S768x384 ![a, b]
      (matmul (F := Ideal) (φ₁ := .bf16) (φ₂ := .bf16) dot_S1536x512_S512x768_S1536x768_1_0_0_1_n_n none X g (constant (F := Ideal) S1536x768 .f32 0x00000000#32)) hs)) hc' x
      = acc (ix3 0 (x 1) (x 2)) + ∑ r : Fin 512, X (ix2 ⟨a + (x 1).val, by idx_bounds; omega⟩ r) * g (ix2 r ⟨b + (x 2).val, by idx_bounds; omega⟩) := by
  pointwise
  refine congrArg₂ (· + ·) (congrArg acc ?_) rfl
  blk_ext

/-- One kernel row's update in place of the row: the buffers read back are the arrays `X` and `G`. -/
theorem dwtile (X : FVec Ideal S1536x512 .bf16) (G : FVec Ideal S512x3072 .bf16)
    (LX : List (View.Piece (Elt Ideal) S1536x512 .bf16)) (LG : List (View.Piece (Elt Ideal) S512x3072 .bf16))
    (hX : ∀ y, View.canon LX y = X y) (hG : ∀ y, View.canon LG y = G y)
    (arg12 : Memref sig .tc .vmem S1536x512 .bf16) (arg11 : Memref sig .tc .vmem S512x3072 .bf16)
    (acc : FVec Ideal S1x768x384 .f32) (k a b q : ℕ)
    (inbx : ∀ a : Fin S1536x512.rank, (![0, 0] : Fin 2 → ℕ) a + S1536x512.size a ≤ S1536x512.size a)
    (inbq : ∀ a : Fin S512x3072.rank, (![0, q] : Fin 2 → ℕ) a + S512x768.size a ≤ S512x3072.size a)
    (inb : ∀ a : Fin S16x768x384.rank, (![k, 0, 0] : Fin 3 → ℕ) a + S1x768x384.size a ≤ S16x768x384.size a)
    (hs : S1536x768.Slices ![a, b] S768x384) (hc : S1x768x384.ShapeCasts S768x384) (hc' : S768x384.ShapeCasts S1x768x384)
    (ha : a = 768 * (k / 8)) (hb : q + b = 384 * (k % 8)) (hb' : b + 384 ≤ 768) (x : S1x768x384.Idx) :
    shapeCast S1x768x384 (addf (F := Ideal) (shapeCast S768x384 acc hc) (extractStridedSlice S768x384 ![a, b]
      (matmul (F := Ideal) (φ₁ := .bf16) (φ₂ := .bf16) dot_S1536x512_S512x768_S1536x768_1_0_0_1_n_n none
        (arg12.view.readCov LX (Rect.unit (s := S1536x512) ![0, 0] S1536x512.size inbx).toLoadRect : FVec Ideal S1536x512 .bf16)
        (arg11.view.readCov LG (Rect.unit (s := S512x3072) ![0, q] S512x768.size inbq).toLoadRect : FVec Ideal S512x768 .bf16)
        (constant (F := Ideal) S1536x768 .f32 0x00000000#32)) hs)) hc' x
      = acc x + dwp X G ((Rect.unit (s := S16x768x384) ![k, 0, 0] S1x768x384.size inb).emb x) := by
  have h0 : k + 1 ≤ 16 := inb 0
  idx_bounds
  have hx : (x 0).val = 0 := by omega
  refine (dw_pw acc _ _ a b hs hc hc' (by omega) hb' x).trans ?_
  refine congrArg₂ (· + ·) (congrArg acc (by blk_ext)) ?_
  unfold dwp
  refine Finset.sum_congr rfl fun r _ => ?_
  rw [View.readCov_eq_canon', View.readCov_eq_canon']
  refine congrArg₂ (· * ·) ((hX _).trans (congrArg X (funext fun d => Fin.ext ?_))) ((hG _).trans (congrArg G (funext fun d => Fin.ext ?_)))
  · match d with
    | ⟨0, _⟩ => exact (show 0 + 1 * (a + (x 1).val) = 768 * ((k + 1 * (x 0).val) / 8) + (0 + 1 * (x 1).val) by rw [hx, ha]; omega)
    | ⟨1, _⟩ => exact (show 0 + 1 * r.val = r.val by omega)
  · match d with
    | ⟨0, _⟩ => exact (show 0 + 1 * r.val = r.val by omega)
    | ⟨1, _⟩ => exact (show q + 1 * (b + (x 2).val) = 384 * ((k + 1 * (x 0).val) % 8) + (0 + 1 * (x 2).val) by rw [hx]; omega)

section Halo

variable (P : FVec Ideal S512x768 .f32) (arg14 : Memref sig .tc .vmem S520x768 .f32)

/-- The second tap's product read one frame down, under what the point before left in row 512. -/
theorem halo_carried (harg14 : arg14.IsWhole) (xs4 : FVec Ideal S520x768 .f32) (inb1 inb0) (y : S512x768.Idx) :
    View.readAt (Elt Ideal) arg14.view (Rect.unit (s := S520x768) ![1, 0] S512x768.size inb1).toLoadRect
      (arg14.view.writes (Elt Ideal) (harg14.unread xs4) [⟨Rect.unit (s := S520x768) ![0, 0] S512x768.size inb0, P⟩]) y
      = if h : (y 0).val + 1 < 512 then P (ix2 ⟨(y 0).val + 1, h⟩ (y 1)) else xs4 (ix2 ⟨512, by omega⟩ (y 1)) := by
  idx_bounds
  rw [View.readAt_apply]
  by_cases h : (y 0).val + 1 < 512
  · rw [dif_pos h]
    refine View.read_writes_cons_hit _ _ _ _ _ _ _ (funext fun d => Fin.ext ?_)
    match d with
    | ⟨0, _⟩ => exact (show 0 + 1 * ((y 0).val + 1) = 1 + 1 * (y 0).val by omega)
    | ⟨1, _⟩ => exact (show 0 + 1 * (y 1).val = 0 + 1 * (y 1).val by rfl)
  · rw [dif_neg h]
    refine (View.read_writes_cons_miss_of_axis _ _ _ _ _ 0 0 512 rfl rfl rfl (Or.inr ?_)).trans ?_
    · exact (show 0 + 512 ≤ 1 + 1 * (y 0).val by omega)
    · show arg14.view.read (Elt Ideal) (harg14.unread xs4) _ = _
      rw [harg14.read_unread]
      refine congrArg xs4 (funext fun d => Fin.ext ?_)
      match d with
      | ⟨0, _⟩ => exact (show 1 + 1 * (y 0).val = 512 by omega)
      | ⟨1, _⟩ => exact (show 0 + 1 * (y 1).val = (y 1).val by omega)

/-- The second tap's product read one frame down, nothing under it. -/
theorem halo_fresh (Z : FVec Ideal S8x768 .f32) (hZ : ∀ z, Z z = 0) (inb1 inb0 inb5) (y : S512x768.Idx) :
    arg14.view.readCov ([⟨Rect.unit (s := S520x768) ![0, 0] S512x768.size inb0, P⟩,
        ⟨Rect.unit (s := S520x768) ![512, 0] S8x768.size inb5, Z⟩] : List (View.Piece (Elt Ideal) S520x768 .f32))
      (Rect.unit (s := S520x768) ![1, 0] S512x768.size inb1).toLoadRect y
      = if h : (y 0).val + 1 < 512 then P (ix2 ⟨(y 0).val + 1, h⟩ (y 1)) else 0 := by
  idx_bounds
  refine (congrFun (View.readCov_eq_canon' arg14.view _ (Rect.unit (s := S520x768) ![1, 0] S512x768.size inb1).toLoadRect) y).trans ?_
  by_cases h : (y 0).val + 1 < 512
  · rw [dif_pos h]
    have e : (Rect.unit (s := S520x768) ![1, 0] S512x768.size inb1).toLoadRect.idx y
        = (Rect.unit (s := S520x768) ![0, 0] S512x768.size inb0).emb (ix2 ⟨(y 0).val + 1, h⟩ (y 1)) := by
      refine funext fun d => Fin.ext ?_
      match d with
      | ⟨0, _⟩ => exact (show 1 + 1 * (y 0).val = 0 + 1 * ((y 0).val + 1) by omega)
      | ⟨1, _⟩ => exact (show 0 + 1 * (y 1).val = 0 + 1 * (y 1).val by rfl)
    refine (congrArg _ e).trans (View.canon_cons_emb _ _ _ _)
  · rw [dif_neg h]
    have e : (Rect.unit (s := S520x768) ![1, 0] S512x768.size inb1).toLoadRect.idx y
        = (Rect.unit (s := S520x768) ![512, 0] S8x768.size inb5).emb (ix2 0 (y 1)) := by
      refine funext fun d => Fin.ext ?_
      match d with
      | ⟨0, _⟩ => exact (show 1 + 1 * (y 0).val = 512 + 1 * 0 by omega)
      | ⟨1, _⟩ => exact (show 0 + 1 * (y 1).val = 0 + 1 * (y 1).val by rfl)
    refine (View.canon_cons_of_not_mem _ _ (Rect.not_mem_set_of_axis _ _ 0 0 512 rfl rfl rfl (Or.inr ?_))).trans ?_
    · exact (show 0 + 512 ≤ 1 + 1 * (y 0).val by omega)
    · exact ((congrArg _ e).trans (View.canon_cons_emb _ _ _ _)).trans (hZ _)

/-- A reshape to the same shape. -/
theorem cast_same (v : FVec Ideal S8x768 .f32) (hc : S8x768.ShapeCasts S8x768) (y : S8x768.Idx) : shapeCast S8x768 v hc y = v y := by
  pointwise

/-- Row 512 after the point: the second tap's product of the tile's first frame. -/
theorem halo_left (M : List (View.Piece (Elt Ideal) S520x768 .f32)) (inb0 inb5 inb8) (hc : S8x768.ShapeCasts S8x768) (a : Fin 768) :
    View.canon ((⟨Rect.unit (s := S520x768) ![512, 0] S8x768.size inb5,
        shapeCast S8x768 (arg14.view.readCov (⟨Rect.unit (s := S520x768) ![0, 0] S512x768.size inb0, P⟩ :: M)
          (Rect.unit (s := S520x768) ![0, 0] S8x768.size inb8).toLoadRect) hc⟩ : View.Piece (Elt Ideal) S520x768 .f32)
        :: (⟨Rect.unit (s := S520x768) ![0, 0] S512x768.size inb0, P⟩ :: M)) (ix2 ⟨512, by omega⟩ a)
      = P (ix2 0 a) := by
  have e : (ix2 ⟨512, by omega⟩ a : S520x768.Idx) = (Rect.unit (s := S520x768) ![512, 0] S8x768.size inb5).emb (ix2 0 a) := by
    refine funext fun d => Fin.ext ?_
    match d with
    | ⟨0, _⟩ => rfl
    | ⟨1, _⟩ => exact (show a.val = 0 + 1 * a.val by omega)
  rw [e, View.canon_cons_emb]
  refine (cast_same _ hc _).trans ?_
  rw [View.readCov_eq_canon']
  have e' : (Rect.unit (s := S520x768) ![0, 0] S8x768.size inb8).toLoadRect.idx (ix2 0 a)
      = (Rect.unit (s := S520x768) ![0, 0] S512x768.size inb0).emb (ix2 0 a) := by
    refine funext fun d => Fin.ext ?_
    match d with
    | ⟨0, _⟩ => rfl
    | ⟨1, _⟩ => rfl
  show View.canon _ ((Rect.unit (s := S520x768) ![0, 0] S8x768.size inb8).toLoadRect.idx (ix2 0 a)) = _
  rw [e', View.canon_cons_emb]

end Halo

/-- Part of the kernel's gradient updated: the rows in `S` hold nothing plus the point's products, the others nothing. -/
def Part (D : FVec Ideal S16x768x384 .f32) (S : List ℕ) (L : List (View.Piece (Elt Ideal) S16x768x384 .f32)) : Prop :=
  ∀ y, View.canon L y = if (y 0).val ∈ S then 0 + D y else 0

/-- One more row updated. -/
theorem Part.step {D : FVec Ideal S16x768x384 .f32} {S : List ℕ} {L : List (View.Piece (Elt Ideal) S16x768x384 .f32)}
    (hL : Part D S L) (k : ℕ) (hk : k ∉ S) (inb) (w : FVec Ideal S1x768x384 .f32)
    (hw : ∀ x, w x = View.canon L ((Rect.unit (s := S16x768x384) ![k, 0, 0] S1x768x384.size inb).emb x)
      + D ((Rect.unit (s := S16x768x384) ![k, 0, 0] S1x768x384.size inb).emb x)) :
    Part D (k :: S) ((⟨Rect.unit (s := S16x768x384) ![k, 0, 0] S1x768x384.size inb, w⟩ : View.Piece (Elt Ideal) S16x768x384 .f32) :: L) := by
  intro y
  by_cases h : (y 0).val = k
  · have e : y = (Rect.unit (s := S16x768x384) ![k, 0, 0] S1x768x384.size inb).emb (ix3 0 (y 1) (y 2)) := by
      refine funext fun d => Fin.ext ?_
      match d with
      | ⟨0, _⟩ => exact (show (y 0).val = k + 1 * 0 by omega)
      | ⟨1, _⟩ => exact (show (y 1).val = 0 + 1 * (y 1).val by omega)
      | ⟨2, _⟩ => exact (show (y 2).val = 0 + 1 * (y 2).val by omega)
    rw [if_pos (by rw [h]; exact List.mem_cons_self)]
    rw [e, View.canon_cons_emb, hw, ← e, hL y, if_neg (by rw [h]; exact hk)]
  · rw [View.canon_cons_of_not_mem _ _ (Rect.not_mem_set_of_axis _ y 0 k 1 rfl rfl rfl (by omega)), hL y]
    have : ((y 0).val ∈ k :: S) ↔ (y 0).val ∈ S := by simp [h]
    simp only [this]

end Cert.KernelIdeal.Val

end
-- ==== Proof.Point.lean ====
module

public import proofs.«01_k».proof.Proof.Dots
public import Idealize.ShloMosaic.Lib.WholeRead

/-!
  What one grid point leaves in every buffer, for each of the three kinds of point: the very first, the first of a later batch row, and any other.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen

/-- One tap's plane of the taps' buffer. -/
def tapRow (W : FVec Ideal S2x768x3072 .bf16) (t : Fin 2) : FVec Ideal S1x768x3072 .bf16 := fun y => W (ix3 t (y 1) (y 2))

/-- What a point writes of the input's gradient: the first tap's product of each frame, and the second tap's of the next
    frame, which for the tile's last frame is `h`. -/
def dxp (G : FVec Ideal S512x3072 .bf16) (W : FVec Ideal S2x768x3072 .bf16) (h : Fin 768 → Ideal .f32) :
    FVec Ideal S1x512x768 .bf16 := fun y =>
  yt G (tapRow W 0) (ix2 (y 1) (y 2))
    + (if h' : (y 1).val + 1 < 512 then yt G (tapRow W 1) (ix2 ⟨(y 1).val + 1, h'⟩ (y 2)) else h (y 2))

/-- A plane loaded from the taps' buffer. -/
theorem plane_load (arg13 : Memref sig .tc .vmem S2x768x3072 .bf16) (harg13 : arg13.IsWhole) (W : FVec Ideal S2x768x3072 .bf16)
    (t : ℕ) (ht : t < 2) (inb) :
    View.readAt (Elt Ideal) arg13.view (Rect.unit (s := S2x768x3072) ![t, 0, 0] S1x768x3072.size inb).toLoadRect (harg13.unread W)
      = tapRow W ⟨t, ht⟩ := by
  funext y
  rw [Memref.IsWhole.readAt_unread]
  have hy : (y 0).val < 1 := (y 0).isLt
  refine congrArg W (funext fun d => Fin.ext ?_)
  match d with
  | ⟨0, _⟩ => exact (show t + 1 * (y 0).val = t by omega)
  | ⟨1, _⟩ => exact (show 0 + 1 * (y 1).val = (y 1).val by omega)
  | ⟨2, _⟩ => exact (show 0 + 1 * (y 2).val = (y 2).val by omega)

/-- A plane loaded from the taps' buffer at the point that fills it. -/
theorem plane_cov (arg13 : Memref sig .tc .vmem S2x768x3072 .bf16) (L : List (View.Piece (Elt Ideal) S2x768x3072 .bf16))
    (W : FVec Ideal S2x768x3072 .bf16) (hW : ∀ y, View.canon L y = W y) (t : ℕ) (ht : t < 2) (inb) :
    arg13.view.readCov L (Rect.unit (s := S2x768x3072) ![t, 0, 0] S1x768x3072.size inb).toLoadRect
      = tapRow W ⟨t, ht⟩ := by
  funext y
  rw [View.readCov_eq_canon']
  have hy : (y 0).val < 1 := (y 0).isLt
  refine (hW _).trans (congrArg W (funext fun d => Fin.ext ?_))
  match d with
  | ⟨0, _⟩ => exact (show t + 1 * (y 0).val = t by omega)
  | ⟨1, _⟩ => exact (show 0 + 1 * (y 1).val = (y 1).val by omega)
  | ⟨2, _⟩ => exact (show 0 + 1 * (y 2).val = (y 2).val by omega)

/-- A buffer stored whole holds what was stored. -/
theorem one_piece (w : FVec Ideal S1x512x768 .bf16) (inb) (y : S1x512x768.Idx) :
    View.canon ([⟨Rect.unit (s := S1x512x768) ![0, 0, 0] S1x512x768.size inb, w⟩] : List (View.Piece (Elt Ideal) S1x512x768 .bf16)) y
      = w y := by
  have hy : (y 0).val < 1 := (y 0).isLt
  have e : (Rect.unit (s := S1x512x768) ![0, 0, 0] S1x512x768.size inb).emb y = y := by
    refine funext fun d => Fin.ext ?_
    match d with
    | ⟨0, _⟩ => exact (show 0 + 1 * (y 0).val = (y 0).val by omega)
    | ⟨1, _⟩ => exact (show 0 + 1 * (y 1).val = (y 1).val by omega)
    | ⟨2, _⟩ => exact (show 0 + 1 * (y 2).val = (y 2).val by omega)
  have h := View.canon_cons_emb (Val := Elt Ideal) (s := S1x512x768) (e := .bf16)
    (Rect.unit (s := S1x512x768) ![0, 0, 0] S1x512x768.size inb) w [] y
  rw [e] at h
  exact h

/-- The one store of the input's gradient, once its three operands are known. -/
theorem dx_piece (G : FVec Ideal S512x3072 .bf16) (W : FVec Ideal S2x768x3072 .bf16) (h : Fin 768 → Ideal .f32)
    (g : FVec Ideal S512x3072 .bf16) (w : FVec Ideal S1x768x3072 .bf16) (v : FVec Ideal S512x768 .f32)
    (hg : g = G) (hw : w = tapRow W 0)
    (hv : ∀ y : S512x768.Idx, v y = if h' : (y 0).val + 1 < 512 then yt G (tapRow W 1) (ix2 ⟨(y 0).val + 1, h'⟩ (y 1)) else h (y 1))
    (inb) (y : S1x512x768.Idx) :
    View.canon ([⟨Rect.unit (s := S1x512x768) ![0, 0, 0] S1x512x768.size inb, k0_pay146 (F := Ideal) g w v⟩]
      : List (View.Piece (Elt Ideal) S1x512x768 .bf16)) y = dxp G W h y := by
  subst hg hw
  refine (one_piece _ inb y).trans ((pay146_pw _ _ _ y).trans ?_)
  rw [hv]
  rfl

/-- A point's update of the kernel's gradient: what was there and the point's products. -/
def dwStep (xo7 : FVec Ideal S16x768x384 .f32) (X : FVec Ideal S1536x512 .bf16) (G : FVec Ideal S512x3072 .bf16) :
    FVec Ideal S16x768x384 .f32 := fun y => xo7 y + dwp X G y

/-- One kernel row's update over what the row's staging buffer held. -/
theorem dwtile_load (X : FVec Ideal S1536x512 .bf16) (G : FVec Ideal S512x3072 .bf16)
    (LX : List (View.Piece (Elt Ideal) S1536x512 .bf16)) (LG : List (View.Piece (Elt Ideal) S512x3072 .bf16))
    (hX : ∀ y, View.canon LX y = X y) (hG : ∀ y, View.canon LG y = G y)
    (arg12 : Memref sig .tc .vmem S1536x512 .bf16) (arg11 : Memref sig .tc .vmem S512x3072 .bf16)
    (arg9 : Memref sig .tc .vmem S16x768x384 .f32) (harg9 : arg9.IsWhole) (xo7 : FVec Ideal S16x768x384 .f32) (k a b q : ℕ)
    (inbx : ∀ a : Fin S1536x512.rank, (![0, 0] : Fin 2 → ℕ) a + S1536x512.size a ≤ S1536x512.size a)
    (inbq : ∀ a : Fin S512x3072.rank, (![0, q] : Fin 2 → ℕ) a + S512x768.size a ≤ S512x3072.size a)
    (inb : ∀ a : Fin S16x768x384.rank, (![k, 0, 0] : Fin 3 → ℕ) a + S1x768x384.size a ≤ S16x768x384.size a)
    (hs : S1536x768.Slices ![a, b] S768x384) (hc : S1x768x384.ShapeCasts S768x384) (hc' : S768x384.ShapeCasts S1x768x384)
    (ha : a = 768 * (k / 8)) (hb : q + b = 384 * (k % 8)) (hb' : b + 384 ≤ 768) (x : S1x768x384.Idx) :
    shapeCast S1x768x384 (addf (F := Ideal) (shapeCast S768x384
        (View.readAt (Elt Ideal) arg9.view (Rect.unit (s := S16x768x384) ![k, 0, 0] S1x768x384.size inb).toLoadRect (harg9.unread xo7)
          : FVec Ideal S1x768x384 .f32) hc) (extractStridedSlice S768x384 ![a, b]
      (matmul (F := Ideal) (φ₁ := .bf16) (φ₂ := .bf16) dot_S1536x512_S512x768_S1536x768_1_0_0_1_n_n none
        (arg12.view.readCov LX (Rect.unit (s := S1536x512) ![0, 0] S1536x512.size inbx).toLoadRect : FVec Ideal S1536x512 .bf16)
        (arg11.view.readCov LG (Rect.unit (s := S512x3072) ![0, q] S512x768.size inbq).toLoadRect : FVec Ideal S512x768 .bf16)
        (constant (F := Ideal) S1536x768 .f32 0x00000000#32)) hs)) hc' x
      = xo7 ((Rect.unit (s := S16x768x384) ![k, 0, 0] S1x768x384.size inb).emb x)
        + dwp X G ((Rect.unit (s := S16x768x384) ![k, 0, 0] S1x768x384.size inb).emb x) := by
  refine (dwtile X G LX LG hX hG arg12 arg11 _ k a b q inbx inbq inb hs hc hc' ha hb hb' x).trans (congrArg₂ (· + ·) ?_ rfl)
  rw [Memref.IsWhole.readAt_unread]
  rfl

/-- One kernel row's update over what the same point stored so far. -/
theorem dwtile_cov (X : FVec Ideal S1536x512 .bf16) (G : FVec Ideal S512x3072 .bf16)
    (LX : List (View.Piece (Elt Ideal) S1536x512 .bf16)) (LG : List (View.Piece (Elt Ideal) S512x3072 .bf16))
    (hX : ∀ y, View.canon LX y = X y) (hG : ∀ y, View.canon LG y = G y)
    (arg12 : Memref sig .tc .vmem S1536x512 .bf16) (arg11 : Memref sig .tc .vmem S512x3072 .bf16)
    (arg9 : Memref sig .tc .vmem S16x768x384 .f32) (L : List (View.Piece (Elt Ideal) S16x768x384 .f32)) (k a b q : ℕ)
    (inbx : ∀ a : Fin S1536x512.rank, (![0, 0] : Fin 2 → ℕ) a + S1536x512.size a ≤ S1536x512.size a)
    (inbq : ∀ a : Fin S512x3072.rank, (![0, q] : Fin 2 → ℕ) a + S512x768.size a ≤ S512x3072.size a)
    (inb : ∀ a : Fin S16x768x384.rank, (![k, 0, 0] : Fin 3 → ℕ) a + S1x768x384.size a ≤ S16x768x384.size a)
    (hs : S1536x768.Slices ![a, b] S768x384) (hc : S1x768x384.ShapeCasts S768x384) (hc' : S768x384.ShapeCasts S1x768x384)
    (ha : a = 768 * (k / 8)) (hb : q + b = 384 * (k % 8)) (hb' : b + 384 ≤ 768) (x : S1x768x384.Idx) :
    shapeCast S1x768x384 (addf (F := Ideal) (shapeCast S768x384
        (arg9.view.readCov L (Rect.unit (s := S16x768x384) ![k, 0, 0] S1x768x384.size inb).toLoadRect
          : FVec Ideal S1x768x384 .f32) hc) (extractStridedSlice S768x384 ![a, b]
      (matmul (F := Ideal) (φ₁ := .bf16) (φ₂ := .bf16) dot_S1536x512_S512x768_S1536x768_1_0_0_1_n_n none
        (arg12.view.readCov LX (Rect.unit (s := S1536x512) ![0, 0] S1536x512.size inbx).toLoadRect : FVec Ideal S1536x512 .bf16)
        (arg11.view.readCov LG (Rect.unit (s := S512x3072) ![0, q] S512x768.size inbq).toLoadRect : FVec Ideal S512x768 .bf16)
        (constant (F := Ideal) S1536x768 .f32 0x00000000#32)) hs)) hc' x
      = View.canon L ((Rect.unit (s := S16x768x384) ![k, 0, 0] S1x768x384.size inb).emb x)
        + dwp X G ((Rect.unit (s := S16x768x384) ![k, 0, 0] S1x768x384.size inb).emb x) := by
  refine (dwtile X G LX LG hX hG arg12 arg11 _ k a b q inbx inbq inb hs hc hc' ha hb hb' x).trans (congrArg₂ (· + ·) ?_ rfl)
  rw [View.readCov_eq_canon']
  rfl

/-- A zero constant, read anywhere. -/
theorem pay24_pw (z : S8x768.Idx) : k0_pay24 (F := Ideal) z = 0 := by
  pointwise [k0_pay24]

/-- A zero constant, read anywhere. -/
theorem pay23_pw (z : S16x768x384.Idx) : k0_pay23 (F := Ideal) z = 0 := by
  pointwise [k0_pay23]

/-- The buffer filled with zeros. -/
theorem zero_piece (inb) (y : S16x768x384.Idx) :
    View.canon ([⟨Rect.unit (s := S16x768x384) ![0, 0, 0] S16x768x384.size inb, k0_pay23 (F := Ideal)⟩]
      : List (View.Piece (Elt Ideal) S16x768x384 .f32)) y = 0 := by
  have e : (Rect.unit (s := S16x768x384) ![0, 0, 0] S16x768x384.size inb).emb y = y := by
    refine funext fun d => Fin.ext ?_
    match d with
    | ⟨0, _⟩ => exact (show 0 + 1 * (y 0).val = (y 0).val by omega)
    | ⟨1, _⟩ => exact (show 0 + 1 * (y 1).val = (y 1).val by omega)
    | ⟨2, _⟩ => exact (show 0 + 1 * (y 2).val = (y 2).val by omega)
  have h := View.canon_cons_emb (Val := Elt Ideal) (s := S16x768x384) (e := .f32)
    (Rect.unit (s := S16x768x384) ![0, 0, 0] S16x768x384.size inb) (k0_pay23 (F := Ideal)) [] y
  rw [e] at h
  exact h.trans (pay23_pw y)

section Points

variable (c : Dev nD) (i : grid0.Coords)
  (arg2 : Memref sig .tc .vmem S1x4096x384 .fp8e5m2) (harg2 : arg2.IsWhole)
  (arg3 : Memref sig .tc .vmem S1x512x768 .bf16) (harg3 : arg3.IsWhole)
  (arg4 : Memref sig .tc .vmem S1x16x768 .bf16) (harg4 : arg4.IsWhole)
  (arg5 : Memref sig .tc .vmem S6x512 .f32) (harg5 : arg5.IsWhole)
  (arg6 : Memref sig .tc .vmem S16x768x384 .fp8e4m3) (harg6 : arg6.IsWhole)
  (arg7 : Memref sig .tc .vmem S1x384 .f32) (harg7 : arg7.IsWhole)
  (arg8 : Memref sig .tc .vmem S1x512x768 .bf16) (harg8 : arg8.IsWhole)
  (arg9 : Memref sig .tc .vmem S16x768x384 .f32) (harg9 : arg9.IsWhole)
  (arg10 : Memref sig .tc .vmem S3x4096x128 .f32) (harg10 : arg10.IsWhole)
  (arg11 : Memref sig .tc .vmem S512x3072 .bf16) (harg11 : arg11.IsWhole)
  (arg12 : Memref sig .tc .vmem S1536x512 .bf16) (harg12 : arg12.IsWhole)
  (arg13 : Memref sig .tc .vmem S2x768x3072 .bf16) (harg13 : arg13.IsWhole)
  (arg14 : Memref sig .tc .vmem S520x768 .f32) (harg14 : arg14.IsWhole)
  (x0 : FVec Ideal S1x4096x384 .fp8e5m2) (x1 : FVec Ideal S1x512x768 .bf16) (x2 : FVec Ideal S1x16x768 .bf16)
  (x3 : FVec Ideal S6x512 .f32) (x4 : FVec Ideal S16x768x384 .fp8e4m3) (x5 : FVec Ideal S1x384 .f32)
  (xo7 : FVec Ideal S16x768x384 .f32) (xs3 : FVec Ideal S2x768x3072 .bf16) (xs4 : FVec Ideal S520x768 .f32)

/-- The transposed tile's buffer is the same in all three cases. -/
theorem xtA (y : S1536x512.Idx) : View.canon (kernelRun0_A.sl.HS2_2 (F := Ideal) c i arg3 harg3 arg4 harg4 x1 x2) y
    = (xtp (kernelRun0_B.sl.v0 i) x1 x2) y := xt_at c i arg3 harg3 arg4 harg4 x1 x2 y

/-- The scaled gradient's buffer is the same in all three cases. -/
theorem gsA_at (y : S512x3072.Idx) : View.canon (kernelRun0_A.sl.HS1_96 (F := Ideal) c i arg2 harg2 arg5 harg5 arg10 x0 x3) y
    = (gsc x0 (kernelRun0_B.sl.r (F := Ideal) c i arg5 harg5 x3)) y := by
  rw [gsA]
  exact gs_at c i arg2 harg2 arg5 harg5 arg10 x0 x3 y

/-- The scaled gradient read back is the same in all three cases. -/
theorem v743A : kernelRun0_A.sl.v743 (F := Ideal) c i arg2 harg2 arg5 harg5 arg10 arg11 x0 x3 = (gsc x0 (kernelRun0_B.sl.r (F := Ideal) c i arg5 harg5 x3)) := by
  refine Eq.trans ?_ (v743_eq c i arg2 harg2 arg5 harg5 arg10 arg11 x0 x3)
  unfold kernelRun0_A.sl.v743 kernelRun0_B.sl.v743
  rw [gsA]

/-- The second tap's product at the first point. -/
theorem y1A : (k0_pay145 (F := Ideal) (kernelRun0_A.sl.r_23 (F := Ideal) c i arg2 harg2 arg5 harg5 arg6 harg6 arg7 harg7 arg10 arg11 arg13 x0 x3 x4 x5) : FVec Ideal S512x768 .f32) = yt (gsc x0 (kernelRun0_B.sl.r (F := Ideal) c i arg5 harg5 x3)) (tapRow (wtp x4 x5) 1) := by
  funext y
  refine (pay144_pw _ _ y).trans ?_
  exact congrArg₂ (fun g w => yt g w y) (v743A c i arg2 harg2 arg5 harg5 arg10 arg11 x0 x3) (plane_cov arg13 _ _ (wt_at c arg6 harg6 arg7 harg7 x4 x5) 1 (by decide) _)

/-- The input's gradient as the first point writes it. -/
theorem dxA (hc0 : cond0_0 i) (hc1 : cond0_1 i) (y : S1x512x768.Idx) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y
      = dxp (gsc x0 (kernelRun0_B.sl.r (F := Ideal) c i arg5 harg5 x3)) (wtp x4 x5) (fun _ => 0) y := by
  unfold out0_A_6
  refine (congrFun (View.read_writes_junk_eq_canon _ _) y).trans ?_
  refine dx_piece (gsc x0 (kernelRun0_B.sl.r (F := Ideal) c i arg5 harg5 x3)) (wtp x4 x5) (fun _ => 0) _ _ _ (v743A c i arg2 harg2 arg5 harg5 arg10 arg11 x0 x3) (plane_cov arg13 _ _ (wt_at c arg6 harg6 arg7 harg7 x4 x5) 0 (by decide) _) (fun y => ?_) _ y
  refine Eq.trans (halo_fresh _ arg14 _ pay24_pw _ _ _ y) ?_
  rw [y1A]

/-- Row 512 of the carried buffer after the first point. -/
theorem haloA (hc0 : cond0_0 i) (hc1 : cond0_1 i) (a : Fin 768) :
    sout0_A_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 (ix2 ⟨512, by omega⟩ a)
      = yt (gsc x0 (kernelRun0_B.sl.r (F := Ideal) c i arg5 harg5 x3)) (tapRow (wtp x4 x5) 1) (ix2 0 a) := by
  unfold sout0_A_4
  refine (congrFun (View.read_writes_junk_eq_canon _ _) _).trans ?_
  rw [← y1A]
  exact halo_left _ arg14 _ _ _ _ _ a

/-- The taps' buffer after the first point. -/
theorem tapsA (hc0 : cond0_0 i) (hc1 : cond0_1 i) (y : S2x768x3072.Idx) :
    sout0_A_3 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y = wtp x4 x5 y := by
  unfold sout0_A_3
  refine (congrFun (View.read_writes_junk_eq_canon _ _) y).trans ?_
  exact wt_at c arg6 harg6 arg7 harg7 x4 x5 y

/-- The kernel's gradient after the first point. -/
theorem dwA (hc0 : cond0_0 i) (hc1 : cond0_1 i) (y : S16x768x384.Idx) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 y = 0 + dwp (xtp (kernelRun0_B.sl.v0 i) x1 x2) (gsc x0 (kernelRun0_B.sl.r (F := Ideal) c i arg5 harg5 x3)) y := by
  unfold out0_A_7
  refine (congrFun (View.read_writes_junk_eq_canon _ _) y).trans ?_
  have key : Part (dwp (xtp (kernelRun0_B.sl.v0 i) x1 x2) (gsc x0 (kernelRun0_B.sl.r (F := Ideal) c i arg5 harg5 x3)))
      [15, 14, 7, 6, 13, 12, 5, 4, 11, 10, 3, 2, 9, 8, 1, 0] (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5).2.1 := by
    unfold kernelRun0_A
    dsimp only
    iterate 16
      refine Part.step ?_ _ (by decide) _ _ (fun x => dwtile_cov (xtp (kernelRun0_B.sl.v0 i) x1 x2) (gsc x0 (kernelRun0_B.sl.r (F := Ideal) c i arg5 harg5 x3)) _ _
        (xtA c i arg3 harg3 arg4 harg4 x1 x2) (gsA_at c i arg2 harg2 arg5 harg5 arg10 x0 x3) arg12 arg11 arg9 _ _ _ _ _
        inb_S1536x512_S1536x512_0_0 (by decide) (by decide) (by decide) shapeCasts_S1x768x384_S768x384 shapeCasts_S768x384_S1x768x384
        (by decide) (by decide) (by decide) x)
    intro z
    rw [if_neg List.not_mem_nil]
    unfold kernelRun0_A.sl.H7_1
    exact zero_piece _ z
  refine (key y).trans (if_pos ?_)
  have h16 : (y 0).val < 16 := (y 0).isLt
  have all : ∀ n : Fin 16, n.val ∈ [15, 14, 7, 6, 13, 12, 5, 4, 11, 10, 3, 2, 9, 8, 1, 0] := by decide
  exact all ⟨_, h16⟩

/-- The second tap's product at a point inside a row of tiles. -/
theorem y1B : (k0_pay145 (F := Ideal) (kernelRun0_B.sl.r_18 (F := Ideal) c i arg2 harg2 arg5 harg5 arg10 arg11 arg13 harg13 x0 x3 xs3) : FVec Ideal S512x768 .f32) = yt (gsc x0 (kernelRun0_B.sl.r (F := Ideal) c i arg5 harg5 x3)) (tapRow xs3 1) := by
  funext y
  refine (pay144_pw _ _ y).trans ?_
  exact congrArg₂ (fun g w => yt g w y) (v743_eq c i arg2 harg2 arg5 harg5 arg10 arg11 x0 x3) (plane_load arg13 harg13 xs3 1 (by decide) _)

/-- The input's gradient as a point inside a row of tiles writes it. -/
theorem dxB (hc0 : ¬cond0_0 i) (hc1 : ¬cond0_1 i) (y : S1x512x768.Idx) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo7 xs3 xs4 y
      = dxp (gsc x0 (kernelRun0_B.sl.r (F := Ideal) c i arg5 harg5 x3)) xs3 (fun a => xs4 (ix2 ⟨512, by omega⟩ a)) y := by
  unfold out0_B_6
  refine (congrFun (View.read_writes_junk_eq_canon _ _) y).trans ?_
  refine dx_piece (gsc x0 (kernelRun0_B.sl.r (F := Ideal) c i arg5 harg5 x3)) xs3 (fun a => xs4 (ix2 ⟨512, by omega⟩ a)) _ _ _ (v743_eq c i arg2 harg2 arg5 harg5 arg10 arg11 x0 x3) (plane_load arg13 harg13 xs3 0 (by decide) _) (fun y => ?_) _ y
  refine Eq.trans (halo_carried _ arg14 harg14 xs4 _ _ y) ?_
  rw [y1B]

/-- Row 512 of the carried buffer after a point inside a row of tiles. -/
theorem haloB (hc0 : ¬cond0_0 i) (hc1 : ¬cond0_1 i) (a : Fin 768) :
    sout0_B_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo7 xs3 xs4 (ix2 ⟨512, by omega⟩ a)
      = yt (gsc x0 (kernelRun0_B.sl.r (F := Ideal) c i arg5 harg5 x3)) (tapRow xs3 1) (ix2 0 a) := by
  unfold sout0_B_4
  refine (congrFun (View.read_writes_junk_eq_canon _ _) _).trans ?_
  rw [← y1B]
  exact halo_left _ arg14 _ _ _ _ _ a

/-- The kernel's gradient after a point inside a row of tiles. -/
theorem dwB (hc0 : ¬cond0_0 i) (hc1 : ¬cond0_1 i) (y : S16x768x384.Idx) :
    out0_B_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo7 xs3 xs4 y = xo7 y + dwp (xtp (kernelRun0_B.sl.v0 i) x1 x2) (gsc x0 (kernelRun0_B.sl.r (F := Ideal) c i arg5 harg5 x3)) y := by
  unfold out0_B_7
  refine (congrFun (View.read_writes_junk_eq_canon _ _) y).trans ?_
  show _ = dwStep xo7 (xtp (kernelRun0_B.sl.v0 i) x1 x2) (gsc x0 (kernelRun0_B.sl.r (F := Ideal) c i arg5 harg5 x3)) y
  unfold kernelRun0_B
  dsimp only
  refine View.canon_apply_of_pieces (Val := Elt Ideal) (S := S16x768x384) (e := .f32) _ _ (View.PiecesOf.mem ?_) y
    (View.cover_of_tiled_head _ _ _ (by rfl) y)
  repeat' apply And.intro
  all_goals try trivial
  all_goals intro x
  all_goals
    exact dwtile_load (xtp (kernelRun0_B.sl.v0 i) x1 x2) (gsc x0 (kernelRun0_B.sl.r (F := Ideal) c i arg5 harg5 x3)) _ _
      (xt_at c i arg3 harg3 arg4 harg4 x1 x2) (gs_at c i arg2 harg2 arg5 harg5 arg10 x0 x3) arg12 arg11 arg9 harg9 xo7 _ _ _ _
      inb_S1536x512_S1536x512_0_0 (by decide) (by decide) (by decide) shapeCasts_S1x768x384_S768x384 shapeCasts_S768x384_S1x768x384
      (by decide) (by decide) (by decide) x

/-- The transposed tile's buffer is the same in all three cases. -/
theorem xtC (y : S1536x512.Idx) : View.canon (kernelRun0_C.sl.HS2_2 (F := Ideal) c i arg3 harg3 arg4 harg4 x1 x2) y
    = (xtp (kernelRun0_B.sl.v0 i) x1 x2) y := xt_at c i arg3 harg3 arg4 harg4 x1 x2 y

/-- The scaled gradient's buffer is the same in all three cases. -/
theorem gsC_at (y : S512x3072.Idx) : View.canon (kernelRun0_C.sl.HS1_96 (F := Ideal) c i arg2 harg2 arg5 harg5 arg10 x0 x3) y
    = (gsc x0 (kernelRun0_B.sl.r (F := Ideal) c i arg5 harg5 x3)) y := by
  rw [gsC]
  exact gs_at c i arg2 harg2 arg5 harg5 arg10 x0 x3 y

/-- The scaled gradient read back is the same in all three cases. -/
theorem v743C : kernelRun0_C.sl.v743 (F := Ideal) c i arg2 harg2 arg5 harg5 arg10 arg11 x0 x3 = (gsc x0 (kernelRun0_B.sl.r (F := Ideal) c i arg5 harg5 x3)) := by
  refine Eq.trans ?_ (v743_eq c i arg2 harg2 arg5 harg5 arg10 arg11 x0 x3)
  unfold kernelRun0_C.sl.v743 kernelRun0_B.sl.v743
  rw [gsC]

/-- The second tap's product at the first point of a later row of tiles. -/
theorem y1C : (k0_pay145 (F := Ideal) (kernelRun0_C.sl.r_18 (F := Ideal) c i arg2 harg2 arg5 harg5 arg10 arg11 arg13 harg13 x0 x3 xs3) : FVec Ideal S512x768 .f32) = yt (gsc x0 (kernelRun0_B.sl.r (F := Ideal) c i arg5 harg5 x3)) (tapRow xs3 1) := by
  funext y
  refine (pay144_pw _ _ y).trans ?_
  exact congrArg₂ (fun g w => yt g w y) (v743C c i arg2 harg2 arg5 harg5 arg10 arg11 x0 x3) (plane_load arg13 harg13 xs3 1 (by decide) _)

/-- The input's gradient as the first point of a later row of tiles writes it. -/
theorem dxC (hc0 : ¬cond0_0 i) (hc1 : cond0_1 i) (y : S1x512x768.Idx) :
    out0_C_6 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo7 xs3 y
      = dxp (gsc x0 (kernelRun0_B.sl.r (F := Ideal) c i arg5 harg5 x3)) xs3 (fun _ => 0) y := by
  unfold out0_C_6
  refine (congrFun (View.read_writes_junk_eq_canon _ _) y).trans ?_
  refine dx_piece (gsc x0 (kernelRun0_B.sl.r (F := Ideal) c i arg5 harg5 x3)) xs3 (fun _ => 0) _ _ _ (v743C c i arg2 harg2 arg5 harg5 arg10 arg11 x0 x3) (plane_load arg13 harg13 xs3 0 (by decide) _) (fun y => ?_) _ y
  refine Eq.trans (halo_fresh _ arg14 _ pay24_pw _ _ _ y) ?_
  rw [y1C]

/-- Row 512 of the carried buffer after the first point of a later row of tiles. -/
theorem haloC (hc0 : ¬cond0_0 i) (hc1 : cond0_1 i) (a : Fin 768) :
    sout0_C_4 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo7 xs3 (ix2 ⟨512, by omega⟩ a)
      = yt (gsc x0 (kernelRun0_B.sl.r (F := Ideal) c i arg5 harg5 x3)) (tapRow xs3 1) (ix2 0 a) := by
  unfold sout0_C_4
  refine (congrFun (View.read_writes_junk_eq_canon _ _) _).trans ?_
  rw [← y1C]
  exact halo_left _ arg14 _ _ _ _ _ a

/-- The kernel's gradient after the first point of a later row of tiles. -/
theorem dwC (hc0 : ¬cond0_0 i) (hc1 : cond0_1 i) (y : S16x768x384.Idx) :
    out0_C_7 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 xo7 xs3 y = xo7 y + dwp (xtp (kernelRun0_B.sl.v0 i) x1 x2) (gsc x0 (kernelRun0_B.sl.r (F := Ideal) c i arg5 harg5 x3)) y := by
  unfold out0_C_7
  refine (congrFun (View.read_writes_junk_eq_canon _ _) y).trans ?_
  show _ = dwStep xo7 (xtp (kernelRun0_B.sl.v0 i) x1 x2) (gsc x0 (kernelRun0_B.sl.r (F := Ideal) c i arg5 harg5 x3)) y
  unfold kernelRun0_C
  dsimp only
  refine View.canon_apply_of_pieces (Val := Elt Ideal) (S := S16x768x384) (e := .f32) _ _ (View.PiecesOf.mem ?_) y
    (View.cover_of_tiled_head _ _ _ (by rfl) y)
  repeat' apply And.intro
  all_goals try trivial
  all_goals intro x
  all_goals
    exact dwtile_load (xtp (kernelRun0_B.sl.v0 i) x1 x2) (gsc x0 (kernelRun0_B.sl.r (F := Ideal) c i arg5 harg5 x3)) _ _
      (xtC c i arg3 harg3 arg4 harg4 x1 x2) (gsC_at c i arg2 harg2 arg5 harg5 arg10 x0 x3) arg12 arg11 arg9 harg9 xo7 _ _ _ _
      inb_S1536x512_S1536x512_0_0 (by decide) (by decide) (by decide) shapeCasts_S1x768x384_S768x384 shapeCasts_S768x384_S1x768x384
      (by decide) (by decide) (by decide) x

end Points

end Cert.KernelIdeal.Val

end
-- ==== Proof.Closed.lean ====
module

public import Mathlib.Data.EReal.Operations
public import Mathlib.Data.EReal.Inv
public import Mathlib.Algebra.BigOperators.Fin

@[expose] public section

noncomputable section

/-! The two gradients as sums over the arrays, read at plain indices: what both programs are shown to compute. -/

namespace Cert.Closed

variable (dy : Fin 6 → Fin 32768 → Fin 384 → EReal) (s : Fin 6 → Fin 4096 → EReal)
  (w : Fin 16 → Fin 768 → Fin 384 → EReal) (ws : Fin 384 → EReal) (x : Fin 6 → Fin 4096 → Fin 768 → EReal)

/-- The scaled gradient at frame `T`: entry `q` is output channel `q % 384` at the frame's step `q / 384`. -/
def gg (b : Fin 6) (T : Fin 4096) (q : Fin 3072) : EReal :=
  dy b ⟨8 * T.val + q.val / 384, by omega⟩ ⟨q.val % 384, by omega⟩ * s b T

/-- The scaled kernel, taps `8 j … 8 j + 7`: entry `q` is output channel `q % 384` of tap `8 j + q / 384`. -/
def wt (j : Fin 2) (a : Fin 768) (q : Fin 3072) : EReal :=
  w ⟨8 * j.val + q.val / 384, by omega⟩ a ⟨q.val % 384, by omega⟩ * ws ⟨q.val % 384, by omega⟩

/-- The input at frame `T` on the first 768 entries, and at the frame before on the others (0 before the first frame). -/
def xx (b : Fin 6) (T : Fin 4096) (k : Fin 1536) : EReal :=
  if h : k.val < 768 then x b T ⟨k.val, h⟩
  else if T.val = 0 then 0 else x b ⟨T.val - 1, by omega⟩ ⟨k.val - 768, by omega⟩

/-- The input's gradient. -/
def dxF (b : Fin 6) (T : Fin 4096) (a : Fin 768) : EReal :=
  (∑ q : Fin 3072, gg dy s b T q * wt w ws 0 a q)
    + (if h : T.val + 1 < 4096 then ∑ q : Fin 3072, gg dy s b ⟨T.val + 1, h⟩ q * wt w ws 1 a q else 0)

/-- The kernel's gradient. -/
def dwF (k : Fin 16) (a : Fin 768) (o : Fin 384) : EReal :=
  ∑ b : Fin 6, ∑ T : Fin 4096,
    xx x b T ⟨768 * (k.val / 8) + a.val, by omega⟩ * gg dy s b T ⟨384 * (k.val % 8) + o.val, by omega⟩

/-- A sum over 48 tiles of 512 frames, a sequence's tiles met from its last to its first, is the sum over the sequences'
    frames. -/
theorem sum_tiles (F : Fin 6 → Fin 4096 → EReal) :
    ∑ t : Fin 48, ∑ r : Fin 512, F ⟨t.val / 8, by omega⟩ ⟨512 * (7 - t.val % 8) + r.val, by omega⟩
      = ∑ b : Fin 6, ∑ T : Fin 4096, F b T := by
  rw [← Finset.sum_product' (s := (Finset.univ : Finset (Fin 48))) (t := (Finset.univ : Finset (Fin 512)))
      (f := fun t r => F ⟨t.val / 8, by omega⟩ ⟨512 * (7 - t.val % 8) + r.val, by omega⟩),
    ← Finset.sum_product' (s := (Finset.univ : Finset (Fin 6))) (t := (Finset.univ : Finset (Fin 4096))) (f := F)]
  refine Finset.sum_bij'
    (fun p _ => ((⟨p.1.val / 8, by omega⟩ : Fin 6), (⟨512 * (7 - p.1.val % 8) + p.2.val, by omega⟩ : Fin 4096)))
    (fun p _ => ((⟨8 * p.1.val + (7 - p.2.val / 512), by omega⟩ : Fin 48), (⟨p.2.val % 512, by omega⟩ : Fin 512)))
    (fun _ _ => Finset.mem_product.mpr ⟨Finset.mem_univ _, Finset.mem_univ _⟩)
    (fun _ _ => Finset.mem_product.mpr ⟨Finset.mem_univ _, Finset.mem_univ _⟩) ?_ ?_ (fun _ _ => rfl)
  · rintro ⟨t, r⟩ -
    refine Prod.ext (Fin.ext ?_) (Fin.ext ?_)
    · show 8 * (t.val / 8) + (7 - (512 * (7 - t.val % 8) + r.val) / 512) = t.val
      omega
    · show (512 * (7 - t.val % 8) + r.val) % 512 = r.val
      omega
  · rintro ⟨b, T⟩ -
    refine Prod.ext (Fin.ext ?_) (Fin.ext ?_)
    · show (8 * b.val + (7 - T.val / 512)) / 8 = b.val
      omega
    · show 512 * (7 - (8 * b.val + (7 - T.val / 512)) % 8) + T.val % 512 = T.val
      omega

/-- A negative scale does not distribute over a sum of opposite infinities: `sum_mul_right` needs its sign hypothesis. -/
theorem negative_scale : ((⊤ : EReal) + ⊥) * (-1) ≠ ⊤ * (-1) + ⊥ * (-1) := by
  simp [EReal.add_bot]

/-- An infinite scale does not distribute over a sum that cancels: `sum_mul_right` needs its finiteness hypothesis. -/
theorem infinite_scale : ((1 : EReal) + (-1)) * ⊤ ≠ 1 * ⊤ + (-1) * ⊤ := by
  have h : (1 : EReal) + (-1) = 0 := by
    rw [← EReal.coe_one, ← EReal.coe_neg, ← EReal.coe_add, add_neg_cancel, EReal.coe_zero]
  rw [h, zero_mul]
  simp

/-- A number that is at least 0 and not infinite multiplies a finite sum term by term. -/
theorem sum_mul_right {ι : Type} (t : Finset ι) (f : ι → EReal) (a : EReal) (h0 : 0 ≤ a) (h1 : a ≠ ⊤) :
    (∑ i ∈ t, f i) * a = ∑ i ∈ t, f i * a := by
  classical
  induction t using Finset.induction_on with
  | empty => rw [Finset.sum_empty, Finset.sum_empty, zero_mul]
  | insert i t hi ih => rw [Finset.sum_insert hi, Finset.sum_insert hi, EReal.right_distrib_of_nonneg_of_ne_top h0 h1, ih]

/-- A sum over a frame's 3072 entries, by output channel and step. -/
theorem sum_taps (f : Fin 3072 → EReal) :
    ∑ q : Fin 3072, f q = ∑ o : Fin 384, ∑ p : Fin 8, f ⟨384 * p.val + o.val, by omega⟩ := by
  rw [← Finset.sum_product' (s := (Finset.univ : Finset (Fin 384))) (t := (Finset.univ : Finset (Fin 8)))
      (f := fun o p => f ⟨384 * p.val + o.val, by omega⟩)]
  refine Finset.sum_bij'
    (fun q _ => ((⟨q.val % 384, by omega⟩ : Fin 384), (⟨q.val / 384, by omega⟩ : Fin 8)))
    (fun p _ => (⟨384 * p.2.val + p.1.val, by omega⟩ : Fin 3072))
    (fun _ _ => Finset.mem_product.mpr ⟨Finset.mem_univ _, Finset.mem_univ _⟩) (fun _ _ => Finset.mem_univ _) ?_ ?_ ?_
  · rintro q -
    exact Fin.ext (show 384 * (q.val / 384) + q.val % 384 = q.val by omega)
  · rintro ⟨o, p⟩ -
    refine Prod.ext (Fin.ext ?_) (Fin.ext ?_)
    · show (384 * p.val + o.val) % 384 = o.val
      omega
    · show (384 * p.val + o.val) / 384 = p.val
      omega
  · rintro q -
    exact congrArg f (Fin.ext (show q.val = 384 * (q.val / 384) + q.val % 384 by omega))

/-- One tap group's part of the input's gradient, the scale taken out of the sum. -/
theorem tap_part (hs : ∀ b T, 0 ≤ s b T ∧ s b T ≠ ⊤) (b : Fin 6) (T : Fin 4096) (j : Fin 2) (a : Fin 768)
    (T8 : Fin 8 → Fin 32768) (hT : ∀ p, (T8 p).val = 8 * T.val + p.val) (k8 : Fin 8 → Fin 16) (hk : ∀ p, (k8 p).val = 8 * j.val + p.val) :
    ∑ q : Fin 3072, gg dy s b T q * wt w ws j a q
      = (∑ o : Fin 384, ∑ p : Fin 8, dy b (T8 p) o * (w (k8 p) a o * ws o)) * s b T := by
  rw [sum_mul_right _ _ _ (hs b T).1 (hs b T).2, sum_taps]
  refine Finset.sum_congr rfl fun o _ => ?_
  rw [sum_mul_right _ _ _ (hs b T).1 (hs b T).2]
  refine Finset.sum_congr rfl fun p _ => ?_
  unfold gg wt
  have e1 : (⟨8 * T.val + (384 * p.val + o.val) / 384, by omega⟩ : Fin 32768) = T8 p := Fin.ext ((show 8 * T.val + (384 * p.val + o.val) / 384 = 8 * T.val + p.val by omega).trans (hT p).symm)
  have e2 : (⟨8 * j.val + (384 * p.val + o.val) / 384, by omega⟩ : Fin 16) = k8 p := Fin.ext ((show 8 * j.val + (384 * p.val + o.val) / 384 = 8 * j.val + p.val by omega).trans (hk p).symm)
  have e3 : (⟨(384 * p.val + o.val) % 384, by omega⟩ : Fin 384) = o := Fin.ext (show (384 * p.val + o.val) % 384 = o.val by omega)
  simp only [e1, e2, e3]
  exact mul_right_comm (G := EReal) _ _ _

/-- The kernel's gradient, its two halves written out: the first eight taps meet a frame's own input, the last eight the
    input of the frame before. -/
theorem dwF_halves (k : Fin 16) (a : Fin 768) (o : Fin 384)
    (t0 : Fin 4096 → Fin 32768) (h0 : ∀ T, (t0 T).val = 8 * T.val + k.val % 8)
    (t1 : Fin 4095 → Fin 32768) (h1 : ∀ T, (t1 T).val = 8 * (T.val + 1) + k.val % 8)
    (u1 : Fin 4095 → Fin 4096) (g1 : ∀ T, (u1 T).val = T.val + 1) (v1 : Fin 4095 → Fin 4096) (i1 : ∀ T, (v1 T).val = T.val) :
    dwF dy s x k a o = if k.val / 8 < 1 then ∑ b : Fin 6, ∑ T : Fin 4096, dy b (t0 T) o * s b T * x b T a
      else ∑ b : Fin 6, ∑ T : Fin 4095, dy b (t1 T) o * s b (u1 T) * x b (v1 T) a := by
  have e3 : (⟨(384 * (k.val % 8) + o.val) % 384, by omega⟩ : Fin 384) = o := Fin.ext (show (384 * (k.val % 8) + o.val) % 384 = o.val by omega)
  unfold dwF
  by_cases hk : k.val / 8 < 1
  · rw [if_pos hk]
    refine Finset.sum_congr rfl fun b _ => Finset.sum_congr rfl fun T _ => ?_
    refine (EReal.mul_comm _ _).trans ?_
    refine congrArg₂ (fun u v : EReal => u * v) ?_ ?_
    · unfold gg
      have e1 : (⟨8 * T.val + (384 * (k.val % 8) + o.val) / 384, by omega⟩ : Fin 32768) = t0 T := Fin.ext ((show 8 * T.val + (384 * (k.val % 8) + o.val) / 384 = 8 * T.val + k.val % 8 by omega).trans (h0 T).symm)
      simp only [e1, e3]
    · unfold xx
      refine (dif_pos (show 768 * (k.val / 8) + a.val < 768 by omega)).trans (congrArg (x b T) (Fin.ext ?_))
      show 768 * (k.val / 8) + a.val = a.val
      omega
  · rw [if_neg hk]
    refine Finset.sum_congr rfl fun b _ => ?_
    rw [Fin.sum_univ_succ (n := 4095)]
    have z : xx x b (0 : Fin 4096) ⟨768 * (k.val / 8) + a.val, by omega⟩ = 0 := by
      unfold xx
      exact (dif_neg (show ¬768 * (k.val / 8) + a.val < 768 by omega)).trans (if_pos rfl)
    refine (congrArg₂ (fun u v : EReal => u + v) ((congrArg (fun u : EReal => u * _) z).trans (zero_mul _)) rfl).trans ((zero_add _).trans ?_)
    refine Finset.sum_congr rfl fun T _ => ?_
    refine (EReal.mul_comm _ _).trans ?_
    refine congrArg₂ (fun u v : EReal => u * v) ?_ ?_
    · unfold gg
      have e1 : (⟨8 * (T.succ : Fin 4096).val + (384 * (k.val % 8) + o.val) / 384, by omega⟩ : Fin 32768) = t1 T := Fin.ext ((show 8 * (T.val + 1) + (384 * (k.val % 8) + o.val) / 384 = 8 * (T.val + 1) + k.val % 8 by omega).trans (h1 T).symm)
      have e2 : (T.succ : Fin 4096) = u1 T := Fin.ext (g1 T).symm
      rw [← e2]
      simp only [e3]
      exact congrArg (fun t => dy b t o * s b T.succ) e1
    · unfold xx
      refine (dif_neg (show ¬768 * (k.val / 8) + a.val < 768 by omega)).trans ((if_neg (show ¬(T.val + 1 = 0) by omega)).trans ?_)
      refine congrArg₂ (x b) (Fin.ext ?_) (Fin.ext ?_)
      · show T.val + 1 - 1 = (v1 T).val
        rw [i1]; omega
      · show 768 * (k.val / 8) + a.val - 768 = a.val
        omega

end Cert.Closed
-- ==== Proof.Sweep.lean ====
module

public import proofs.«01_k».proof.Proof.Gen.KernelIdeal.Value
public import proofs.«01_k».proof.Proof.Point
public import proofs.«01_k».proof.Proof.Closed
public import Idealize.ShloMosaic.Lib.Pipeline.ValueKit

/-!
  Each grid point's buffers in terms of the argument arrays: which batch row, which tile of frames and which entries a point reads.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen Cert.Closed

variable (m : (ℓ : Loc nD τ sig) → Buf (Elt Ideal) ℓ)

/-- The input windows' block indices at a point. -/
theorem idx : ∀ t : Fin cfg0.N, win0_0.index t = ![t.val / 8, 7 - t.val % 8, 0] ∧ win0_1.index t = ![t.val / 8, 7 - t.val % 8, 0]
    ∧ win0_2.index t = ![t.val / 8, (7 - t.val % 8) * 32 - 1, 0] ∧ win0_3.index t = ![0, 7 - t.val % 8]
    ∧ win0_4.index t = ![0, 0, 0] ∧ win0_5.index t = ![0, 0]
    ∧ win0_6.index t = ![t.val / 8, 7 - t.val % 8, 0] ∧ win0_7.index t = ![0, 0, 0] :=
  (by decide +kernel : ∀ t : Fin grid0.N, _)

/-- The row of scales a point loads. -/
theorem off_row : ∀ t : Fin cfg0.N, k0_off1 (grid0.coords t) = ![t.val / 8, 0] :=
  (by decide +kernel : ∀ t : Fin grid0.N, _)

/-- The tile's number is 0 exactly at the last point of a sequence. -/
theorem tile_zero : ∀ t : Fin cfg0.N, kernelRun0_B.sl.v0 (grid0.coords t) = 0#32 ↔ t.val % 8 = 7 :=
  (by decide +kernel : ∀ t : Fin grid0.N, _)

/-- The gradient's codes, the frames' scales, the kernel's codes, its scales, and the input, at plain indices. -/
def aDy (c : Dev nD) : Fin 6 → Fin 32768 → Fin 384 → EReal := fun b t o => m ((c : Thread nD τ).loc main_arg1) (ix3 b t o)
@[inherit_doc aDy] def aS (c : Dev nD) : Fin 6 → Fin 4096 → EReal := fun b t => m ((c : Thread nD τ).loc main_arg2) (ix2 b t)
@[inherit_doc aDy] def aW (c : Dev nD) : Fin 16 → Fin 768 → Fin 384 → EReal := fun k a o => m ((c : Thread nD τ).loc main_arg3) (ix3 k a o)
@[inherit_doc aDy] def aWs (c : Dev nD) : Fin 384 → EReal := fun o => m ((c : Thread nD τ).loc main_arg4) (ix1 o)
@[inherit_doc aDy] def aX (c : Dev nD) : Fin 6 → Fin 4096 → Fin 768 → EReal := fun b t a => m ((c : Thread nD τ).loc main_arg0) (ix3 b t a)

/-- A point's scaled gradient tile. -/
def gP (c : Dev nD) (t : Fin cfg0.N) : FVec Ideal S512x3072 .bf16 :=
  gsc (iblk m c 0 t) (kernelRun0_B.sl.r (F := Ideal) c (grid0.coords t) (ms0_3 t) (hs0_3 t) (iblk m c 3 t))
/-- A point's two stacked input tiles. -/
def xP (c : Dev nD) (t : Fin cfg0.N) : FVec Ideal S1536x512 .bf16 :=
  xtp (kernelRun0_B.sl.v0 (grid0.coords t)) (iblk m c 1 t) (iblk m c 2 t)
/-- The scaled taps, at a point's blocks. -/
def wP (c : Dev nD) (t : Fin cfg0.N) : FVec Ideal S2x768x3072 .bf16 := wtp (iblk m c 4 t) (iblk m c 5 t)

/-- The tile of the scaled gradient, entry by entry. -/
theorem gP_at (c : Dev nD) (t : Fin cfg0.N) (ht : t.val < 48) (r : Fin 512) (q : Fin 3072) :
    gP m c t (ix2 r q) = gg (aDy m c) (aS m c) ⟨t.val / 8, by omega⟩ ⟨512 * (7 - t.val % 8) + r.val, by omega⟩ q := by
  unfold gP gsc gg aDy aS kernelRun0_B.sl.r
  rw [Memref.IsWhole.readAt_unread]
  refine congrArg₂ (· * ·) ?_ ?_
  · blk_ext [iblk, V, idx t]
  · have e0 : k0_off1 (grid0.coords t) 0 = t.val / 8 := congrFun (off_row t) 0
    have e1 : k0_off1 (grid0.coords t) 1 = 0 := congrFun (off_row t) 1
    blk_ext [iblk, V, idx t]
    · exact (show k0_off1 (grid0.coords t) 0 + 1 * 0 = t.val / 8 by omega)
    · exact (show (7 - t.val % 8) * 512 + (k0_off1 (grid0.coords t) 1 + 1 * r.val) = 512 * (7 - t.val % 8) + r.val by omega)

/-- The taps, entry by entry. -/
theorem wP_at (c : Dev nD) (t : Fin cfg0.N) (j : Fin 2) (a : Fin 768) (q : Fin 3072) :
    wP m c t (ix3 j a q) = wt (aW m c) (aWs m c) j a q := by
  unfold wP wtp wt aW aWs
  refine congrArg₂ (· * ·) ?_ ?_
  · blk_ext [iblk, V, idx t]
  · blk_simp [iblk]
    entry_read
    pointwise
    blk_ext [idx t]

/-- The stacked input tiles, entry by entry. -/
theorem xP_at (c : Dev nD) (t : Fin cfg0.N) (ht : t.val < 48) (r : Fin 512) (k : Fin 1536) :
    xP m c t (ix2 k r) = xx (aX m c) ⟨t.val / 8, by omega⟩ ⟨512 * (7 - t.val % 8) + r.val, by omega⟩ k := by
  unfold xP xtp xx aX
  by_cases hk : k.val < 768
  · refine (dif_pos (show ((ix2 k r : S1536x512.Idx) 0).val < 768 from hk)).trans (Eq.trans ?_ (dif_pos hk).symm)
    blk_ext [iblk, V, idx t]
  refine (dif_neg (show ¬((ix2 k r : S1536x512.Idx) 0).val < 768 from hk)).trans (Eq.trans ?_ (dif_neg hk).symm)
  by_cases hr : r.val = 0
  · refine (if_pos (show ((ix2 k r : S1536x512.Idx) 1).val = 0 from hr)).trans ?_
    by_cases h7 : t.val % 8 = 7
    · refine (if_pos ((tile_zero t).mpr h7)).trans (Eq.symm (dif_pos ?_))
      show 512 * (7 - t.val % 8) + r.val = 0
      omega
    · refine (if_neg fun h => h7 ((tile_zero t).mp h)).trans (Eq.trans ?_ (dif_neg ?_).symm)
      · blk_ext [iblk, V, idx t]
      · show ¬512 * (7 - t.val % 8) + r.val = 0
        omega
  · refine (if_neg (show ¬((ix2 k r : S1536x512.Idx) 1).val = 0 from hr)).trans (Eq.trans ?_ (dif_neg ?_).symm)
    · blk_ext [iblk, V, idx t]
    · show ¬512 * (7 - t.val % 8) + r.val = 0
      omega

/-- What the first point writes of the input's gradient. -/
theorem pt_dxA (c : Dev nD) (t : Fin cfg0.N) (h0 : t.val % 48 = 0) (h1 : t.val % 8 = 0) (y : S1x512x768.Idx) :
    (outsAt0 m c t.val t.isLt).1 y = dxp (gP m c t) (wP m c t) (fun _ => 0) y := by
  rw [outsAt0_A m c t h0 h1]
  dsimp only
  unfold gP wP
  exact dxA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) ((hcond0_0 t).mpr h0) ((hcond0_1 t).mpr h1) y

/-- Row 512 of the carried buffer after the first point. -/
theorem pt_haloA (c : Dev nD) (t : Fin cfg0.N) (h0 : t.val % 48 = 0) (h1 : t.val % 8 = 0) (a : Fin 768) :
    (outsAt0 m c t.val t.isLt).2.2.2 (ix2 ⟨512, by omega⟩ a) = yt (gP m c t) (tapRow (wP m c t) 1) (ix2 0 a) := by
  rw [outsAt0_A m c t h0 h1]
  dsimp only
  unfold gP wP
  exact haloA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) ((hcond0_0 t).mpr h0) ((hcond0_1 t).mpr h1) a

/-- The kernel's gradient after the first point. -/
theorem pt_dwA (c : Dev nD) (t : Fin cfg0.N) (h0 : t.val % 48 = 0) (h1 : t.val % 8 = 0) (y : S16x768x384.Idx) :
    (outsAt0 m c t.val t.isLt).2.1 y = 0 + dwp (xP m c t) (gP m c t) y := by
  rw [outsAt0_A m c t h0 h1]
  dsimp only
  unfold xP gP
  exact dwA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) ((hcond0_0 t).mpr h0) ((hcond0_1 t).mpr h1) y

/-- The taps' buffer after the first point. -/
theorem pt_tapsA (c : Dev nD) (t : Fin cfg0.N) (h0 : t.val % 48 = 0) (h1 : t.val % 8 = 0) (y : S2x768x3072.Idx) :
    (outsAt0 m c t.val t.isLt).2.2.1 y = wP m c t y := by
  rw [outsAt0_A m c t h0 h1]
  dsimp only
  unfold wP
  exact tapsA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) ((hcond0_0 t).mpr h0) ((hcond0_1 t).mpr h1) y

/-- What a point inside a sequence writes of the input's gradient. -/
theorem pt_dxB (c : Dev nD) (t : Fin cfg0.N) (h0 : ¬t.val % 48 = 0) (h1 : ¬t.val % 8 = 0) (y : S1x512x768.Idx) :
    (outsAt0 m c t.val t.isLt).1 y = dxp (gP m c t) ((outsAt0 m c (t.val - 1) (Nat.lt_of_le_of_lt (Nat.sub_le _ _) t.isLt)).2.2.1) (fun a => (outsAt0 m c (t.val - 1) (Nat.lt_of_le_of_lt (Nat.sub_le _ _) t.isLt)).2.2.2 (ix2 ⟨512, by omega⟩ a)) y := by
  rw [outsAt0_B m c t h0 h1]
  dsimp only
  unfold gP
  exact dxB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) y

/-- Row 512 of the carried buffer after a point inside a sequence. -/
theorem pt_haloB (c : Dev nD) (t : Fin cfg0.N) (h0 : ¬t.val % 48 = 0) (h1 : ¬t.val % 8 = 0) (a : Fin 768) :
    (outsAt0 m c t.val t.isLt).2.2.2 (ix2 ⟨512, by omega⟩ a) = yt (gP m c t) (tapRow ((outsAt0 m c (t.val - 1) (Nat.lt_of_le_of_lt (Nat.sub_le _ _) t.isLt)).2.2.1) 1) (ix2 0 a) := by
  rw [outsAt0_B m c t h0 h1]
  dsimp only
  unfold gP
  exact haloB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) a

/-- The kernel's gradient after a point inside a sequence. -/
theorem pt_dwB (c : Dev nD) (t : Fin cfg0.N) (h0 : ¬t.val % 48 = 0) (h1 : ¬t.val % 8 = 0) (y : S16x768x384.Idx) :
    (outsAt0 m c t.val t.isLt).2.1 y = (outsAt0 m c (t.val - 1) (Nat.lt_of_le_of_lt (Nat.sub_le _ _) t.isLt)).2.1 y + dwp (xP m c t) (gP m c t) y := by
  rw [outsAt0_B m c t h0 h1]
  dsimp only
  unfold xP gP
  exact dwB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) y

/-- The taps' buffer after a point inside a sequence: as the point before left it. -/
theorem pt_tapsB (c : Dev nD) (t : Fin cfg0.N) (h0 : ¬t.val % 48 = 0) (h1 : ¬t.val % 8 = 0) :
    (outsAt0 m c t.val t.isLt).2.2.1 = (outsAt0 m c (t.val - 1) (Nat.lt_of_le_of_lt (Nat.sub_le _ _) t.isLt)).2.2.1 := by
  rw [outsAt0_B m c t h0 h1]
  rfl

/-- What a later sequence's first point writes of the input's gradient. -/
theorem pt_dxC (c : Dev nD) (t : Fin cfg0.N) (h0 : ¬t.val % 48 = 0) (h1 : t.val % 8 = 0) (y : S1x512x768.Idx) :
    (outsAt0 m c t.val t.isLt).1 y = dxp (gP m c t) ((outsAt0 m c (t.val - 1) (Nat.lt_of_le_of_lt (Nat.sub_le _ _) t.isLt)).2.2.1) (fun _ => 0) y := by
  rw [outsAt0_C m c t h0 h1]
  dsimp only
  unfold gP
  exact dxC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) y

/-- Row 512 of the carried buffer after a later sequence's first point. -/
theorem pt_haloC (c : Dev nD) (t : Fin cfg0.N) (h0 : ¬t.val % 48 = 0) (h1 : t.val % 8 = 0) (a : Fin 768) :
    (outsAt0 m c t.val t.isLt).2.2.2 (ix2 ⟨512, by omega⟩ a) = yt (gP m c t) (tapRow ((outsAt0 m c (t.val - 1) (Nat.lt_of_le_of_lt (Nat.sub_le _ _) t.isLt)).2.2.1) 1) (ix2 0 a) := by
  rw [outsAt0_C m c t h0 h1]
  dsimp only
  unfold gP
  exact haloC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) a

/-- The kernel's gradient after a later sequence's first point. -/
theorem pt_dwC (c : Dev nD) (t : Fin cfg0.N) (h0 : ¬t.val % 48 = 0) (h1 : t.val % 8 = 0) (y : S16x768x384.Idx) :
    (outsAt0 m c t.val t.isLt).2.1 y = (outsAt0 m c (t.val - 1) (Nat.lt_of_le_of_lt (Nat.sub_le _ _) t.isLt)).2.1 y + dwp (xP m c t) (gP m c t) y := by
  rw [outsAt0_C m c t h0 h1]
  dsimp only
  unfold xP gP
  exact dwC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) y

/-- The taps' buffer after a later sequence's first point: as the point before left it. -/
theorem pt_tapsC (c : Dev nD) (t : Fin cfg0.N) (h0 : ¬t.val % 48 = 0) (h1 : t.val % 8 = 0) :
    (outsAt0 m c t.val t.isLt).2.2.1 = (outsAt0 m c (t.val - 1) (Nat.lt_of_le_of_lt (Nat.sub_le _ _) t.isLt)).2.2.1 := by
  rw [outsAt0_C m c t h0 h1]
  rfl
-- ==== Proof.KernelVal.lean ====
module

public import proofs.«01_k».proof.Proof.Sweep

/-!
  The kernel's two output arrays: what the buffers carried from point to point hold by induction along the grid, and with it the closed form
  of both results.
-/

@[expose] public section

set_option maxRecDepth 16384

noncomputable section

namespace Cert.KernelIdeal.Val

open Idealize.ShloMosaic Idealize.ShloMosaic.TcCoe Idealize.ShloMosaic.Tactic
open Idealize.SL.Sem
open Cert.KernelIdeal Cert.KernelIdeal.Gen Cert.Closed

variable (m : (ℓ : Loc nD τ sig) → Buf (Elt Ideal) ℓ)

/-- The taps' buffer holds the scaled taps after every point. -/
theorem taps_kept (c : Dev nD) (j : Fin 2) (a : Fin 768) (q : Fin 3072) : ∀ (n : ℕ) (hn : n < cfg0.N),
    (outsAt0 m c n hn).2.2.1 (ix3 j a q) = wt (aW m c) (aWs m c) j a q := by
  intro n
  induction n with
  | zero =>
    intro hn
    exact (pt_tapsA m c ⟨0, hn⟩ rfl rfl _).trans (wP_at m c ⟨0, hn⟩ j a q)
  | succ n ih =>
    intro hn
    have hN : n + 1 < 48 := lt_of_lt_of_eq hn N_0
    have h0 : ¬(n + 1) % 48 = 0 := by omega
    by_cases h1 : (n + 1) % 8 = 0
    · exact (congrFun (pt_tapsC m c ⟨n + 1, hn⟩ h0 h1) _).trans (ih _)
    · exact (congrFun (pt_tapsB m c ⟨n + 1, hn⟩ h0 h1) _).trans (ih _)

/-- The gradient buffer after a point: the tiles' products so far, added up. -/
theorem dw_upto (c : Dev nD) (y : S16x768x384.Idx) : ∀ (n : ℕ) (hn : n < cfg0.N),
    (outsAt0 m c n hn).2.1 y
      = ∑ p : Fin (n + 1), dwp (xP m c ⟨p.val, lt_of_lt_of_le p.isLt hn⟩) (gP m c ⟨p.val, lt_of_lt_of_le p.isLt hn⟩) y := by
  intro n
  induction n with
  | zero =>
    intro hn
    exact (pt_dwA m c ⟨0, hn⟩ rfl rfl y).trans ((zero_add _).trans
      (Fin.sum_univ_one (fun p : Fin 1 => dwp (xP m c ⟨p.val, lt_of_lt_of_le p.isLt hn⟩) (gP m c ⟨p.val, lt_of_lt_of_le p.isLt hn⟩) y)).symm)
  | succ n ih =>
    intro hn
    have hN : n + 1 < 48 := lt_of_lt_of_eq hn N_0
    have h0 : ¬(n + 1) % 48 = 0 := by omega
    refine Eq.trans ?_ (Fin.sum_univ_castSucc (fun p : Fin (n + 1 + 1) => dwp (xP m c ⟨p.val, lt_of_lt_of_le p.isLt hn⟩) (gP m c ⟨p.val, lt_of_lt_of_le p.isLt hn⟩) y)).symm
    by_cases h1 : (n + 1) % 8 = 0
    · exact (pt_dwC m c ⟨n + 1, hn⟩ h0 h1 y).trans (congrArg (fun z : EReal => z + dwp (xP m c ⟨n + 1, hn⟩) (gP m c ⟨n + 1, hn⟩) y) (ih _))
    · exact (pt_dwB m c ⟨n + 1, hn⟩ h0 h1 y).trans (congrArg (fun z : EReal => z + dwp (xP m c ⟨n + 1, hn⟩) (gP m c ⟨n + 1, hn⟩) y) (ih _))

/-- A tap's product over a tile, at a taps' buffer that holds the scaled taps. -/
theorem yt_tap (c : Dev nD) (t : Fin cfg0.N) (ht : t.val < 48) (W : FVec Ideal S2x768x3072 .bf16)
    (hW : ∀ (j : Fin 2) (a : Fin 768) (q : Fin 3072), W (ix3 j a q) = wt (aW m c) (aWs m c) j a q) (j : Fin 2) (r : Fin 512) (a : Fin 768) :
    yt (gP m c t) (tapRow W j) (ix2 r a)
      = ∑ q : Fin 3072, gg (aDy m c) (aS m c) ⟨t.val / 8, by omega⟩ ⟨512 * (7 - t.val % 8) + r.val, by omega⟩ q * wt (aW m c) (aWs m c) j a q := by
  refine Finset.sum_congr rfl fun q _ => ?_
  exact congrArg₂ (fun u v : EReal => u * v) (gP_at m c t ht r q) (hW j a q)

/-- What a tile writes of the input's gradient, once the halo is the next frame's second-tap product (or 0 at the last frame). -/
theorem dxp_closed (c : Dev nD) (t : Fin cfg0.N) (ht : t.val < 48) (W : FVec Ideal S2x768x3072 .bf16)
    (hW : ∀ (j : Fin 2) (a : Fin 768) (q : Fin 3072), W (ix3 j a q) = wt (aW m c) (aWs m c) j a q) (h : Fin 768 → Ideal .f32)
    (hh : ∀ a, h a = if h' : 512 * (7 - t.val % 8) + 511 + 1 < 4096 then
      ∑ q : Fin 3072, gg (aDy m c) (aS m c) ⟨t.val / 8, by omega⟩ ⟨512 * (7 - t.val % 8) + 511 + 1, h'⟩ q * wt (aW m c) (aWs m c) 1 a q else 0)
    (r : Fin 512) (a : Fin 768) :
    dxp (gP m c t) W h (ix3 0 r a)
      = dxF (aDy m c) (aS m c) (aW m c) (aWs m c) ⟨t.val / 8, by omega⟩ ⟨512 * (7 - t.val % 8) + r.val, by omega⟩ a := by
  unfold dxp dxF
  refine congrArg₂ (fun u v : EReal => u + v) (yt_tap m c t ht W hW 0 r a) ?_
  by_cases h' : r.val + 1 < 512
  · refine (dif_pos (show ((ix3 0 r a : S1x512x768.Idx) 1).val + 1 < 512 from h')).trans (Eq.trans ?_ (dif_pos (show 512 * (7 - t.val % 8) + r.val + 1 < 4096 by omega)).symm)
    exact yt_tap m c t ht W hW 1 ⟨r.val + 1, h'⟩ a
  · refine (dif_neg (show ¬((ix3 0 r a : S1x512x768.Idx) 1).val + 1 < 512 from h')).trans ((hh a).trans ?_)
    have hr : r.val = 511 := by omega
    by_cases h7 : 512 * (7 - t.val % 8) + 511 + 1 < 4096
    · refine (dif_pos h7).trans (Eq.trans ?_ (dif_pos (show 512 * (7 - t.val % 8) + r.val + 1 < 4096 by omega)).symm)
      refine Finset.sum_congr rfl fun q _ => ?_
      have e : (⟨512 * (7 - t.val % 8) + 511 + 1, h7⟩ : Fin 4096) = ⟨512 * (7 - t.val % 8) + r.val + 1, by omega⟩ := Fin.ext (by simp only [hr])
      rw [e]
    · refine (dif_neg h7).trans ?_
      have hn : ¬512 * (7 - t.val % 8) + r.val + 1 < 4096 := by omega
      symm
      exact dif_neg hn

/-- What point `t` writes of the input's gradient. -/
theorem dx_point (c : Dev nD) (t : Fin cfg0.N) (ht : t.val < 48) (r : Fin 512) (a : Fin 768) :
    (outsAt0 m c t.val t.isLt).1 (ix3 0 r a)
      = dxF (aDy m c) (aS m c) (aW m c) (aWs m c) ⟨t.val / 8, by omega⟩ ⟨512 * (7 - t.val % 8) + r.val, by omega⟩ a := by
  by_cases h0 : t.val % 48 = 0
  · have h1 : t.val % 8 = 0 := by omega
    refine (pt_dxA m c t h0 h1 _).trans (dxp_closed m c t ht _ (wP_at m c t) _ (fun a => ?_) r a)
    have hn : ¬512 * (7 - t.val % 8) + 511 + 1 < 4096 := by omega
    symm
    exact dif_neg hn
  by_cases h1 : t.val % 8 = 0
  · refine (pt_dxC m c t h0 h1 _).trans (dxp_closed m c t ht _ (fun j a q => taps_kept m c j a q _ _) _ (fun a => ?_) r a)
    have hn : ¬512 * (7 - t.val % 8) + 511 + 1 < 4096 := by omega
    symm
    exact dif_neg hn
  · refine (pt_dxB m c t h0 h1 _).trans (dxp_closed m c t ht _ (fun j a q => taps_kept m c j a q _ _) _ (fun a => ?_) r a)
    have hp : t.val - 1 < cfg0.N := Nat.lt_of_le_of_lt (Nat.sub_le _ _) t.isLt
    have key : ∀ W : FVec Ideal S2x768x3072 .bf16, (∀ (j : Fin 2) (a : Fin 768) (q : Fin 3072), W (ix3 j a q) = wt (aW m c) (aWs m c) j a q) →
        yt (gP m c ⟨t.val - 1, hp⟩) (tapRow W 1) (ix2 0 a)
          = if h' : 512 * (7 - t.val % 8) + 511 + 1 < 4096 then
              ∑ q : Fin 3072, gg (aDy m c) (aS m c) ⟨t.val / 8, by omega⟩ ⟨512 * (7 - t.val % 8) + 511 + 1, h'⟩ q * wt (aW m c) (aWs m c) 1 a q else 0 := by
      intro W hW
      have h' : 512 * (7 - t.val % 8) + 511 + 1 < 4096 := by omega
      refine (yt_tap m c ⟨t.val - 1, hp⟩ (by show t.val - 1 < 48; omega) W hW 1 0 a).trans (Eq.trans ?_ (dif_pos h').symm)
      refine Finset.sum_congr rfl fun q _ => ?_
      have eb : (⟨(t.val - 1) / 8, by omega⟩ : Fin 6) = ⟨t.val / 8, by omega⟩ := Fin.ext (show (t.val - 1) / 8 = t.val / 8 by omega)
      have eT : (⟨512 * (7 - (t.val - 1) % 8) + 0, by omega⟩ : Fin 4096) = ⟨512 * (7 - t.val % 8) + 511 + 1, h'⟩ :=
        Fin.ext (show 512 * (7 - (t.val - 1) % 8) + 0 = 512 * (7 - t.val % 8) + 511 + 1 by omega)
      exact congrArg₂ (fun b T => gg (aDy m c) (aS m c) b T q * wt (aW m c) (aWs m c) 1 a q) eb eT
    by_cases k0 : (t.val - 1) % 48 = 0
    · exact (pt_haloA m c ⟨t.val - 1, hp⟩ k0 (by show (t.val - 1) % 8 = 0; omega) a).trans (key _ (wP_at m c _))
    by_cases k1 : (t.val - 1) % 8 = 0
    · exact (pt_haloC m c ⟨t.val - 1, hp⟩ k0 k1 a).trans (key _ fun j a q => taps_kept m c j a q _ _)
    · exact (pt_haloB m c ⟨t.val - 1, hp⟩ k0 k1 a).trans (key _ fun j a q => taps_kept m c j a q _ _)

/-- The input's gradient, as an array. -/
def dxArr (c : Dev nD) : FVec Ideal S6x4096x768 .bf16 := fun y => dxF (aDy m c) (aS m c) (aW m c) (aWs m c) (y 0) (y 1) (y 2)

/-- The kernel's gradient, as an array. -/
def dwArr (c : Dev nD) : FVec Ideal S16x768x384 .f32 := fun y => dwF (aDy m c) (aS m c) (aX m c) (y 0) (y 1) (y 2)

/-- What a point writes of the input's gradient, at the array's own index. -/
theorem dx_tile (c : Dev nD) (t : Fin cfg0.N) (y : S1x512x768.Idx) (j : S6x4096x768.Idx) (h0 : (j 0).val = t.val / 8)
    (h1 : (j 1).val = (7 - t.val % 8) * 512 + (y 1).val) (h2 : (j 2).val = (y 2).val) :
    (outsAt0 m c t.val t.isLt).1 y = dxArr m c j := by
  have ht : t.val < 48 := lt_of_lt_of_eq t.isLt N_0
  obtain ⟨r, hr⟩ : ∃ r : Fin 512, r = y 1 := ⟨y 1, rfl⟩
  obtain ⟨a, ha⟩ : ∃ a : Fin 768, a = y 2 := ⟨y 2, rfl⟩
  have ey : y = ix3 0 r a := by subst hr ha; blk_ext
  have e0 : j 0 = (⟨t.val / 8, by omega⟩ : Fin 6) := Fin.ext h0
  have e1 : j 1 = (⟨512 * (7 - t.val % 8) + r.val, by omega⟩ : Fin 4096) := Fin.ext (h1.trans (by rw [← hr]; show (7 - t.val % 8) * 512 + r.val = 512 * (7 - t.val % 8) + r.val; omega))
  have e2 : j 2 = a := Fin.ext (h2.trans (by rw [ha]))
  rw [ey]
  refine (dx_point m c t ht r a).trans ?_
  unfold dxArr
  rw [e0, e1, e2]

/-- A tile's product for the kernel's gradient. -/
theorem dwp_closed (c : Dev nD) (t : Fin cfg0.N) (ht : t.val < 48) (y : S16x768x384.Idx) (k : Fin 1536) (q : Fin 3072)
    (hk : k.val = 768 * ((y 0).val / 8) + (y 1).val) (hq : q.val = 384 * ((y 0).val % 8) + (y 2).val) :
    dwp (xP m c t) (gP m c t) y
      = ∑ r : Fin 512, xx (aX m c) ⟨t.val / 8, by omega⟩ ⟨512 * (7 - t.val % 8) + r.val, by omega⟩ k
          * gg (aDy m c) (aS m c) ⟨t.val / 8, by omega⟩ ⟨512 * (7 - t.val % 8) + r.val, by omega⟩ q := by
  unfold dwp
  refine Finset.sum_congr rfl fun r _ => ?_
  refine congrArg₂ (fun u v : EReal => u * v) ?_ ?_
  · refine Eq.trans (congrArg (fun z => xP m c t (ix2 z r)) (Fin.ext ?_)) (xP_at m c t ht r k)
    exact hk.symm
  · refine Eq.trans (congrArg (fun z => gP m c t (ix2 r z)) (Fin.ext ?_)) (gP_at m c t ht r q)
    exact hq.symm

/-- The sum of the 48 tiles' products is the sum over all frames. -/
theorem dw_sum (c : Dev nD) (n : ℕ) (hn : n = 48) (hle : n ≤ cfg0.N) (y : S16x768x384.Idx) (k : Fin 16) (a : Fin 768) (o : Fin 384)
    (hk : k.val = (y 0).val) (ha : a.val = (y 1).val) (ho : o.val = (y 2).val) :
    ∑ p : Fin n, dwp (xP m c ⟨p.val, lt_of_lt_of_le p.isLt hle⟩) (gP m c ⟨p.val, lt_of_lt_of_le p.isLt hle⟩) y
      = dwF (aDy m c) (aS m c) (aX m c) k a o := by
  subst hn
  unfold dwF
  rw [← sum_tiles]
  refine Finset.sum_congr rfl fun p _ => ?_
  exact dwp_closed m c ⟨p.val, lt_of_lt_of_le p.isLt hle⟩ p.isLt y _ _
    (show 768 * (k.val / 8) + a.val = 768 * ((y 0).val / 8) + (y 1).val by rw [hk, ha])
    (show 384 * (k.val % 8) + o.val = 384 * ((y 0).val % 8) + (y 2).val by rw [hk, ho])

/-- The gradient buffer after the last point. -/
theorem dw_all (c : Dev nD) (t : Fin cfg0.N) (ht : t.val % 48 = 47) (y j : S16x768x384.Idx) (h : j = y) :
    (outsAt0 m c t.val t.isLt).2.1 y = dwArr m c j := by
  have hN : t.val < 48 := lt_of_lt_of_eq t.isLt N_0
  subst h
  exact (dw_upto m c j t.val t.isLt).trans (dw_sum m c (t.val + 1) (by omega) t.isLt j (j 0) (j 1) (j 2) rfl rfl rfl)

/-- The first result after the run. -/
theorem final6 (c : Dev nD) : (dats m 0 c).arrAt 6 cfg0.N = dxArr m c := by
  refine (dats m 0 c).arrAt_eq_of_covers 6 _ (by decide +kernel) fun t hf y => ?_
  blk_simp
  rw [after0_6]
  refine dx_tile m c t y _ ?_ ?_ ?_
  all_goals blk_simp [idx t]
  all_goals try omega

/-- The second result after the run. -/
theorem final7 (c : Dev nD) : (dats m 0 c).arrAt 7 cfg0.N = dwArr m c := by
  refine (dats m 0 c).arrAt_eq_of_covers 7 _ (by decide +kernel) fun t hf y => ?_
  have ht : t.val % 48 = 47 := (flush0_7 t).mp hf
  blk_simp
  rw [after0_7]
  refine dw_all m c t ht y _ ?_
  blk_ext [idx t]

/-- The run: both results in closed form, the arguments as launched. -/
theorem run (g : Dev nD → PrngReg) : θ_run defs (onTc (τ := τ) (main (F := Ideal))) ⟨m, fun _ => 0, g⟩ fun r => ∀ c : Dev nD,
      r.2.mem ((c : Thread nD τ).loc main_v1_0) = dxArr m c
      ∧ r.2.mem ((c : Thread nD τ).loc main_v1_1) = dwArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final6 m c), (h c).2.1.trans (final7 m c), (h c).2.2⟩)
    (Cert.KernelIdeal.Value.run_blocks m g)

end Cert.KernelIdeal.Val
-- ==== Proof.RefRun.lean ====
module

public import proofs.«01_k».proof.Defs
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Lib.Pipeline.ValueKit
public import Idealize.ShloMosaic.Lib.StableHlo.RunRead

/-!
  The reference's run: the values of its two results as the pure operations of its program applied to its arguments.
-/

@[expose] public section

set_option maxRecDepth 16384

noncomputable section

namespace Cert.ReferenceIdeal.Val

open Idealize.ShloMosaic Idealize.ShloMosaic.TcCoe Idealize.ShloMosaic.Tactic
open Idealize.SL.Sem
open Cert.ReferenceIdeal Cert.ReferenceIdeal.Gen

variable (m : (ℓ : Loc nD τ sig) → Buf (Elt Ideal) ℓ)

/-- The one point's index maps: every window is its whole array. -/
theorem idx : ∀ t : Fin cfg0.N, win0_0.index t = ![0, 0, 0] ∧ win0_1.index t = ![0, 0, 0]
    ∧ win0_2.index t = ![0, 0, 0] ∧ win0_3.index t = ![0, 0, 0] :=
  (by decide +kernel : ∀ t : Fin grid0.N, _)

/-- The first widened array, after the region: the gradient's codes, their format changed. -/
theorem wide2 (c : Dev nD) : (dats m 0 c).arrAt 2 (cfgs 0).N = k0_pay1 (m ((c : Thread nD τ).loc main_arg1)) := by
  refine (dats m 0 c).arrAt_eq_of_covers 2 _ (by decide +kernel) fun t hf y => ?_
  blk_simp
  rw [after0_2]
  frame_out
  pointwise [k0_pay1]
  blk_point [iblk, V, idx t]

/-- The second widened array, after the region: the kernel's codes, their format changed. -/
theorem wide3 (c : Dev nD) : (dats m 0 c).arrAt 3 (cfgs 0).N = k0_pay2 (m ((c : Thread nD τ).loc main_arg3)) := by
  refine (dats m 0 c).arrAt_eq_of_covers 3 _ (by decide +kernel) fun t hf y => ?_
  blk_simp
  rw [after0_3]
  frame_out
  pointwise [k0_pay2]
  blk_point [iblk, V, idx t]

/-- The widened kernel times the channel scales, as the two taps' stack. -/
def wtap (W : FVec Ideal S16x768x384 .bf16) (Ws : FVec Ideal S384 .f32) : FVec Ideal S2x8x768x384 .bf16 :=
  shapeCast S2x8x768x384
    (mulf W (broadcastInDim S16x768x384 ![0, 1, 2] bcast_S1x1x384_S16x768x384_0_1_2
      (broadcastInDim S1x1x384 ![2] bcast_S384_S1x1x384_2 (truncf .bf16 Ws bitsLt_bf16_f32))))
    shapeCasts_S16x768x384_S2x8x768x384

/-- The gradient, a frame's taps as an axis. -/
def grad (G : FVec Ideal S6x32768x384 .bf16) : FVec Ideal S6x4096x8x384 .bf16 :=
  shapeCast S6x4096x8x384 G shapeCasts_S6x32768x384_S6x4096x8x384

/-- The first tap's part of the input's gradient. -/
def dx0 (G : FVec Ideal S6x32768x384 .bf16) (S : FVec Ideal S6x4096 .f32) (W : FVec Ideal S16x768x384 .bf16)
    (Ws : FVec Ideal S384 .f32) : FVec Ideal S6x4096x768 .f32 :=
  mulf (Host.dotGeneral dot_S6x4096x8x384_S8x768x384_S6x4096x768_32_20_01_1_n_n none (grad G)
      (shapeCast S8x768x384 (extractStridedSlice S1x8x768x384 ![0, 0, 0, 0] (wtap W Ws)
        slices_S2x8x768x384_S1x8x768x384_0_0_0_0) shapeCasts_S1x8x768x384_S8x768x384))
    (broadcastInDim S6x4096x768 ![0, 1, 2] bcast_S6x4096x1_S6x4096x768_0_1_2
      (broadcastInDim S6x4096x1 ![0, 1] bcast_S6x4096_S6x4096x1_0_1 S))

/-- The second tap's part of the input's gradient, of the frames that have a successor. -/
def dx1 (G : FVec Ideal S6x32768x384 .bf16) (S : FVec Ideal S6x4096 .f32) (W : FVec Ideal S16x768x384 .bf16)
    (Ws : FVec Ideal S384 .f32) : FVec Ideal S6x4095x768 .f32 :=
  mulf (Host.dotGeneral dot_S6x4095x8x384_S8x768x384_S6x4095x768_32_20_01_1_n_n none
      (extractStridedSlice S6x4095x8x384 ![0, 1, 0, 0] (grad G) slices_S6x4096x8x384_S6x4095x8x384_0_1_0_0)
      (shapeCast S8x768x384 (extractStridedSlice S1x8x768x384 ![1, 0, 0, 0] (wtap W Ws)
        slices_S2x8x768x384_S1x8x768x384_1_0_0_0) shapeCasts_S1x8x768x384_S8x768x384))
    (broadcastInDim S6x4095x768 ![0, 1, 2] bcast_S6x4095x1_S6x4095x768_0_1_2
      (broadcastInDim S6x4095x1 ![0, 1] bcast_S6x4095_S6x4095x1_0_1
        (extractStridedSlice S6x4095 ![0, 1] S slices_S6x4096_S6x4095_0_1)))

/-- The input's gradient: the second tap's part added into the first's, but for the last frame. -/
def rdx (G : FVec Ideal S6x32768x384 .bf16) (S : FVec Ideal S6x4096 .f32) (W : FVec Ideal S16x768x384 .bf16)
    (Ws : FVec Ideal S384 .f32) : FVec Ideal S6x4096x768 .bf16 :=
  truncf .bf16 (Host.scatter scatter_S6x4096x768_S1_S6x4095x768_012_n_1_0 FloatOps.addf (dx0 G S W Ws)
    (broadcastInDim S1 ![] bcast_S_S1 (constantI S_ 32 0#32)) (dx1 G S W Ws)) bitsLt_bf16_f32

/-- The gradient times the frames' scales. -/
def gsc (G : FVec Ideal S6x32768x384 .bf16) (S : FVec Ideal S6x4096 .f32) : FVec Ideal S6x4096x8x384 .bf16 :=
  mulf (grad G) (broadcastInDim S6x4096x8x384 ![0, 1, 2, 3] bcast_S6x4096x1x1_S6x4096x8x384_0_1_2_3
    (broadcastInDim S6x4096x1x1 ![0, 1] bcast_S6x4096_S6x4096x1x1_0_1 (truncf .bf16 S bitsLt_bf16_f32)))

/-- The kernel's gradient, the first tap's half, as one of two. -/
def dw0 (X : FVec Ideal S6x4096x768 .bf16) (G : FVec Ideal S6x32768x384 .bf16) (S : FVec Ideal S6x4096 .f32) :
    FVec Ideal S1x8x768x384 .f32 :=
  broadcastInDim S1x8x768x384 ![1, 2, 3] bcast_S8x768x384_S1x8x768x384_1_2_3
    (transpose S8x768x384 [0, 2, 1]
      (Host.dotGeneral dot_S6x4096x8x384_S6x4096x768_S8x384x768_01_01_23_2_n_n none (gsc G S) X)
      transposes_S8x384x768_S8x768x384_0_2_1)

/-- The kernel's gradient, the second tap's half, as one of two. -/
def dw1 (X : FVec Ideal S6x4096x768 .bf16) (G : FVec Ideal S6x32768x384 .bf16) (S : FVec Ideal S6x4096 .f32) :
    FVec Ideal S1x8x768x384 .f32 :=
  broadcastInDim S1x8x768x384 ![1, 2, 3] bcast_S8x768x384_S1x8x768x384_1_2_3
    (transpose S8x768x384 [0, 2, 1]
      (Host.dotGeneral dot_S6x4095x8x384_S6x4095x768_S8x384x768_01_01_23_2_n_n none
        (extractStridedSlice S6x4095x8x384 ![0, 1, 0, 0] (gsc G S) slices_S6x4096x8x384_S6x4095x8x384_0_1_0_0)
        (extractStridedSlice S6x4095x768 ![0, 0, 0] X slices_S6x4096x768_S6x4095x768_0_0_0))
      transposes_S8x384x768_S8x768x384_0_2_1)

/-- The kernel's gradient: the taps' halves stacked. -/
def rdw (X : FVec Ideal S6x4096x768 .bf16) (G : FVec Ideal S6x32768x384 .bf16) (S : FVec Ideal S6x4096 .f32) :
    FVec Ideal S16x768x384 .f32 :=
  shapeCast S16x768x384
    (concatenate S2x8x768x384 0 [⟨S1x8x768x384, dw0 X G S⟩, ⟨S1x8x768x384, dw1 X G S⟩]
      concatenates_S1x8x768x384_S1x8x768x384_S2x8x768x384_d0)
    shapeCasts_S2x8x768x384_S16x768x384

/-- After the widening call, an array that is none of its four holds what the start gave it. -/
theorem W_arg (c : Dev nD) (b : Ref sig .tc) (hb : ∀ w, Pipeline.arrRef spec0 w ≠ b) :
    Pipeline.withArrays (cfgs 0).spec c (V0 m c) (fun w => (dats m 0 c).arrAt w (cfgs 0).N) (Proc.devRef .tc b)
      = m ((c : Thread nD τ).loc b) :=
  Pipeline.withArrays_of_ne _ c (V0 m c) _ b hb

/-- After the widening call, its first result is the gradient, widened. -/
theorem W_v0_0 (c : Dev nD) :
    Pipeline.withArrays (cfgs 0).spec c (V0 m c) (fun w => (dats m 0 c).arrAt w (cfgs 0).N) (Proc.devRef .tc main_v0_0)
      = k0_pay1 (m ((c : Thread nD τ).loc main_arg1)) :=
  (Pipeline.withArrays_arr (cfgs 0).spec launch0.win.arr_inj c (V0 m c) (fun w => (dats m 0 c).arrAt w (cfgs 0).N) 2).trans (wide2 m c)

/-- After the widening call, its second result is the weight, widened. -/
theorem W_v0_1 (c : Dev nD) :
    Pipeline.withArrays (cfgs 0).spec c (V0 m c) (fun w => (dats m 0 c).arrAt w (cfgs 0).N) (Proc.devRef .tc main_v0_1)
      = k0_pay2 (m ((c : Thread nD τ).loc main_arg3)) :=
  (Pipeline.withArrays_arr (cfgs 0).spec launch0.win.arr_inj c (V0 m c) (fun w => (dats m 0 c).arrAt w (cfgs 0).N) 3).trans (wide3 m c)

/-- The reference's first result at the end of the run. -/
theorem dxval (c : Dev nD) : Pipeline.afterTail₀ cfgs (dats m) 0 (V0 m) [hostOps1] c main_v23
    = rdx (k0_pay1 (m ((c : Thread nD τ).loc main_arg1))) (m ((c : Thread nD τ).loc main_arg2))
        (k0_pay2 (m ((c : Thread nD τ).loc main_arg3))) (m ((c : Thread nD τ).loc main_arg4)) := by
  unfold Pipeline.afterTail₀
  simp only [List.flatten_cons, List.flatten_nil, List.append_nil]
  after_reads_simp
  rw [W_arg m c main_arg2 (by decide), W_arg m c main_arg4 (by decide), W_v0_0, W_v0_1]
  rfl

/-- The reference's second result at the end of the run. -/
theorem dwval (c : Dev nD) : Pipeline.afterTail₀ cfgs (dats m) 0 (V0 m) [hostOps1] c main_v37
    = rdw (m ((c : Thread nD τ).loc main_arg0)) (k0_pay1 (m ((c : Thread nD τ).loc main_arg1)))
        (m ((c : Thread nD τ).loc main_arg2)) := by
  unfold Pipeline.afterTail₀
  simp only [List.flatten_cons, List.flatten_nil, List.append_nil]
  set W := Pipeline.withArrays (cfgs 0).spec c (V0 m c) (fun w => (dats m 0 c).arrAt w (cfgs 0).N) with hW
  have h34 : StableHlo.after hostOps1 W (Proc.devRef .tc main_v34)
      = dw0 (m ((c : Thread nD τ).loc main_arg0)) (k0_pay1 (m ((c : Thread nD τ).loc main_arg1)))
        (m ((c : Thread nD τ).loc main_arg2)) := by
    after_reads_simp
    rw [hW, W_arg m c main_arg2 (by decide), W_arg m c main_arg0 (by decide), W_v0_0]
    rfl
  have h35 : StableHlo.after hostOps1 W (Proc.devRef .tc main_v35)
      = dw1 (m ((c : Thread nD τ).loc main_arg0)) (k0_pay1 (m ((c : Thread nD τ).loc main_arg1)))
        (m ((c : Thread nD τ).loc main_arg2)) := by
    after_reads_simp
    rw [hW, W_arg m c main_arg2 (by decide), W_arg m c main_arg0 (by decide), W_v0_0]
    rfl
  have h37 : StableHlo.after hostOps1 W (Proc.devRef .tc main_v37) = fun i => shapeCast S16x768x384 (
    concatenate S2x8x768x384 0 [⟨S1x8x768x384, StableHlo.after hostOps1 W (Proc.devRef .tc main_v34)⟩, ⟨S1x8x768x384, StableHlo.after hostOps1 W (Proc.devRef .tc main_v35)⟩]
      concatenates_S1x8x768x384_S1x8x768x384_S2x8x768x384_d0)
    shapeCasts_S2x8x768x384_S16x768x384 i := by
    after_reads_simp
    rfl
  rw [h37, h34, h35]
  rfl

/-- The reference's run: both results as the terms above, the arguments as launched. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v23)
        = rdx (k0_pay1 (m ((c : Thread nD τ).loc main_arg1))) (m ((c : Thread nD τ).loc main_arg2))
        (k0_pay2 (m ((c : Thread nD τ).loc main_arg3))) (m ((c : Thread nD τ).loc main_arg4))
      ∧ r.2.mem ((c.tc : Thread nD τ).loc main_v37)
        = rdw (m ((c : Thread nD τ).loc main_arg0)) (k0_pay1 (m ((c : Thread nD τ).loc main_arg1)))
        (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from (Gen.run_main (F := Ideal) m g)
  · exact dxval m c
  · exact dwval m c
  · exact W_main_arg0 m (dats m) c
  · exact W_main_arg2 m (dats m) c
  · exact W_main_arg4 m (dats m) c

end Cert.ReferenceIdeal.Val
-- ==== Proof.RefVal.lean ====
module

public import proofs.«01_k».proof.Proof.RefRun
public import proofs.«01_k».proof.Proof.Closed
public import Idealize.ShloMosaic.Lib.Pipeline.ValueKit
public import Idealize.ShloMosaic.Lib.Routing.OpsOrder
public import Idealize.ShloMosaic.Lib.Routing.OpsPair

/-!
  The reference's two results read at an index and brought to the closed forms: its products, its added-in second tap and its halves.
-/

@[expose] public section

set_option maxRecDepth 16384

noncomputable section

namespace Cert.ReferenceIdeal.Val

open Idealize.ShloMosaic Idealize.ShloMosaic.TcCoe Idealize.ShloMosaic.Tactic
open Idealize.SL.Sem
open Cert.ReferenceIdeal Cert.ReferenceIdeal.Gen Cert.Closed

/-- A fold that applies its step at no element of the list leaves the start. -/
theorem foldl_none {α ι : Type} (p : ι → Prop) [DecidablePred p] (f : α → ι → α) :
    ∀ (L : List ι) (z : α), (∀ n ∈ L, ¬p n) → L.foldl (fun a n => if p n then f a n else a) z = z
  | [], _, _ => rfl
  | n :: L, z, h => by
    rw [List.foldl_cons, if_neg (h n (List.mem_cons_self ..))]
    exact foldl_none p f L z fun k hk => h k (List.mem_cons_of_mem _ hk)

/-- A fold that applies its step at exactly one element of the list applies it once, to the start. -/
theorem foldl_once {α ι : Type} (p : ι → Prop) [DecidablePred p] (f : α → ι → α) (n₀ : ι) (hp : p n₀) (hu : ∀ n, p n → n = n₀) :
    ∀ (L : List ι) (z : α), L.Nodup → n₀ ∈ L → L.foldl (fun a n => if p n then f a n else a) z = f z n₀
  | n :: L, z, hL, hm => by
    rw [List.foldl_cons]
    by_cases e : n = n₀
    · subst e
      rw [if_pos hp]
      exact foldl_none p f L _ fun k hk hpk => (List.nodup_cons.mp hL).1 (hu k hpk ▸ hk)
    · rw [if_neg fun h => e (hu n h)]
      exact foldl_once p f n₀ hp hu L z (List.nodup_cons.mp hL).2 ((List.mem_cons.mp hm).resolve_left fun h => e h.symm)

/-- Where an update of the slice-at-0 addition lands: at its own coordinates. -/
theorem lands (j : S6x4095x768.Idx) (i : S6x4096x768.Idx) :
    scatter_S6x4096x768_S1_S6x4095x768_012_n_1_0.resultIdx? j (broadcastInDim S1 ![] bcast_S_S1 (constantI S_ 32 0#32)) = some i
      ↔ (j 0).val = (i 0).val ∧ (j 1).val = (i 1).val ∧ (j 2).val = (i 2).val := by
  have hst : ∀ a, scatter_S6x4096x768_S1_S6x4095x768_012_n_1_0.start j (broadcastInDim S1 ![] bcast_S_S1 (constantI S_ 32 0#32)) a = 0 := by
    intro a
    unfold ScatterDims.start
    split
    · rfl
    · rfl
  have w0 : scatter_S6x4096x768_S1_S6x4095x768_012_n_1_0.window j 0 = (j 0).val := rfl
  have w1 : scatter_S6x4096x768_S1_S6x4095x768_012_n_1_0.window j 1 = (j 1).val := rfl
  have w2 : scatter_S6x4096x768_S1_S6x4095x768_012_n_1_0.window j 2 = (j 2).val := rfl
  rw [Routing.resultIdx?_eq_some]
  constructor
  · intro h
    have h0 := h 0
    have h1 := h 1
    have h2 := h 2
    rw [hst, w0] at h0
    rw [hst, w1] at h1
    rw [hst, w2] at h2
    exact ⟨by omega, by omega, by omega⟩
  · rintro ⟨h0, h1, h2⟩ a
    rw [hst]
    match a with
    | ⟨0, _⟩ => rw [show scatter_S6x4096x768_S1_S6x4095x768_012_n_1_0.window j ⟨0, _⟩ = (j 0).val from rfl, h0, zero_add]; rfl
    | ⟨1, _⟩ => rw [show scatter_S6x4096x768_S1_S6x4095x768_012_n_1_0.window j ⟨1, _⟩ = (j 1).val from rfl, h1, zero_add]; rfl
    | ⟨2, _⟩ => rw [show scatter_S6x4096x768_S1_S6x4095x768_012_n_1_0.window j ⟨2, _⟩ = (j 2).val from rfl, h2, zero_add]; rfl

/-- The slice-at-0 addition at an index: the update is added on the first 4095 frames. -/
theorem scatter_at (x : FVec Ideal S6x4096x768 .f32) (u : FVec Ideal S6x4095x768 .f32) (b : Fin 6) (T : Fin 4096) (a : Fin 768) :
    Host.scatter scatter_S6x4096x768_S1_S6x4095x768_012_n_1_0 FloatOps.addf x (broadcastInDim S1 ![] bcast_S_S1 (constantI S_ 32 0#32)) u (ix3 b T a)
      = if h : T.val < 4095 then (x (ix3 b T a) : EReal) + u (ix3 b ⟨T.val, h⟩ a) else x (ix3 b T a) := by
  rw [← Routing.scatterIn_finRange, Routing.scatterIn_at]
  by_cases h : T.val < 4095
  · rw [dif_pos h]
    refine (foldl_once _ (fun z n => FloatOps.addf z (u (S6x4095x768.rowMajor.symm n))) (S6x4095x768.rowMajor (ix3 b ⟨T.val, h⟩ a)) ?_ ?_
      _ _ (List.nodup_finRange _) (List.mem_finRange _)).trans ?_
    · rw [Equiv.symm_apply_apply, lands]
      exact ⟨rfl, rfl, rfl⟩
    · intro n hn
      rw [lands] at hn
      rw [← Equiv.symm_apply_eq]
      exact funext fun d => Fin.ext (match d with
        | ⟨0, _⟩ => hn.1
        | ⟨1, _⟩ => hn.2.1
        | ⟨2, _⟩ => hn.2.2)
    · rw [Equiv.symm_apply_apply]
      rfl
  · rw [dif_neg h]
    refine foldl_none _ (fun z n => FloatOps.addf z (u (S6x4095x768.rowMajor.symm n))) _ _ fun n _ hn => ?_
    rw [lands] at hn
    have h1 : (S6x4095x768.rowMajor.symm n 1).val < 4095 := (S6x4095x768.rowMajor.symm n 1).isLt
    exact h (hn.2.1 ▸ h1)

/-- The first tap's part at an index. -/
theorem dx0_at (G : FVec Ideal S6x32768x384 .bf16) (S : FVec Ideal S6x4096 .f32) (W : FVec Ideal S16x768x384 .bf16)
    (Ws : FVec Ideal S384 .f32) (b : Fin 6) (T : Fin 4096) (a : Fin 768) :
    dx0 G S W Ws (ix3 b T a)
      = (∑ o : Fin 384, ∑ p : Fin 8, (G (ix3 b ⟨T.val * 8 + p.val, by omega⟩ o) * (W (ix3 ⟨p.val, by omega⟩ a o) * Ws (ix1 o)) : EReal)) * S (ix2 b T) := by
  pointwise [dx0, grad, wtap]

/-- The second tap's part at an index. -/
theorem dx1_at (G : FVec Ideal S6x32768x384 .bf16) (S : FVec Ideal S6x4096 .f32) (W : FVec Ideal S16x768x384 .bf16)
    (Ws : FVec Ideal S384 .f32) (b : Fin 6) (T : Fin 4095) (a : Fin 768) :
    dx1 G S W Ws (ix3 b T a)
      = (∑ o : Fin 384, ∑ p : Fin 8, (G (ix3 b ⟨(1 + T.val) * 8 + p.val, by omega⟩ o) * (W (ix3 ⟨8 + p.val, by omega⟩ a o) * Ws (ix1 o)) : EReal))
          * S (ix2 b ⟨1 + T.val, by omega⟩) := by
  pointwise [dx1, grad, wtap]

/-- The kernel's gradient at an index. -/
theorem rdw_at (X : FVec Ideal S6x4096x768 .bf16) (G : FVec Ideal S6x32768x384 .bf16) (S : FVec Ideal S6x4096 .f32)
    (k : Fin 16) (a : Fin 768) (o : Fin 384) :
    rdw X G S (ix3 k a o)
      = if k.val / 8 < 1 then
          ∑ b : Fin 6, ∑ T : Fin 4096, (G (ix3 b ⟨T.val * 8 + k.val % 8, by omega⟩ o) * S (ix2 b T) * X (ix3 b T a) : EReal)
        else ∑ b : Fin 6, ∑ T : Fin 4095,
          (G (ix3 b ⟨(1 + T.val) * 8 + k.val % 8, by omega⟩ o) * S (ix2 b ⟨1 + T.val, by omega⟩) * X (ix3 b ⟨T.val, by omega⟩ a) : EReal) := by
  pointwise [rdw, dw0, dw1, gsc, grad]
  rfl

/-- A format change leaves every entry. -/
theorem narrowed (x : FVec Ideal S6x4096x768 .f32) (h : FTy.bits .bf16 < FTy.bits .f32) (y : S6x4096x768.Idx) :
    truncf .bf16 x h y = x y := rfl

/-- The input's gradient as the reference computes it, in closed form: where every scale is at least 0 and not infinite. -/
theorem rdx_closed (D : FVec Ideal S6x32768x384 .fp8e5m2) (S : FVec Ideal S6x4096 .f32) (C : FVec Ideal S16x768x384 .fp8e4m3)
    (Ws : FVec Ideal S384 .f32) (hS : ∀ b T, (0 : EReal) ≤ S (ix2 b T) ∧ S (ix2 b T) ≠ (⊤ : EReal)) (b : Fin 6) (T : Fin 4096) (a : Fin 768) :
    rdx (k0_pay1 D) S (k0_pay2 C) Ws (ix3 b T a)
      = dxF (fun b t o => D (ix3 b t o)) (fun b t => S (ix2 b t)) (fun k a o => C (ix3 k a o)) (fun o => Ws (ix1 o)) b T a := by
  have e : rdx (k0_pay1 D) S (k0_pay2 C) Ws (ix3 b T a)
      = Host.scatter scatter_S6x4096x768_S1_S6x4095x768_012_n_1_0 FloatOps.addf (dx0 (k0_pay1 D) S (k0_pay2 C) Ws)
          (broadcastInDim S1 ![] bcast_S_S1 (constantI S_ 32 0#32)) (dx1 (k0_pay1 D) S (k0_pay2 C) Ws) (ix3 b T a) := by
    unfold rdx
    exact narrowed _ _ _
  refine e.trans ((scatter_at (dx0 (k0_pay1 D) S (k0_pay2 C) Ws) (dx1 (k0_pay1 D) S (k0_pay2 C) Ws) b T a).trans ?_)
  have h0 : dx0 (k0_pay1 D) S (k0_pay2 C) Ws (ix3 b T a)
      = ∑ q : Fin 3072, gg (fun b t o => D (ix3 b t o)) (fun b t => S (ix2 b t)) b T q * wt (fun k a o => C (ix3 k a o)) (fun o => Ws (ix1 o)) 0 a q := by
    refine (dx0_at _ S _ Ws b T a).trans (Eq.symm ?_)
    refine (tap_part (fun b t o => D (ix3 b t o)) (fun b t => S (ix2 b t)) (fun k a o => C (ix3 k a o)) (fun o => Ws (ix1 o)) hS b T 0 a
      (fun p => ⟨T.val * 8 + p.val, by omega⟩) (fun p => by show T.val * 8 + p.val = 8 * T.val + p.val; omega)
      (fun p => ⟨p.val, by omega⟩) (fun p => by show p.val = 8 * 0 + p.val; omega)).trans ?_
    rfl
  unfold dxF
  by_cases h : T.val < 4095
  · refine (dif_pos h).trans (Eq.trans ?_ (congrArg (fun z : EReal => _ + z) (dif_pos (show T.val + 1 < 4096 by omega)).symm))
    refine congrArg₂ (fun u v : EReal => u + v) h0 ?_
    refine (dx1_at _ S _ Ws b ⟨T.val, h⟩ a).trans (Eq.symm ?_)
    refine (tap_part (fun b t o => D (ix3 b t o)) (fun b t => S (ix2 b t)) (fun k a o => C (ix3 k a o)) (fun o => Ws (ix1 o)) hS b ⟨T.val + 1, by omega⟩ 1 a
      (fun p => ⟨(1 + T.val) * 8 + p.val, by omega⟩) (fun p => by show (1 + T.val) * 8 + p.val = 8 * (T.val + 1) + p.val; omega)
      (fun p => ⟨8 + p.val, by omega⟩) (fun p => by show 8 + p.val = 8 * 1 + p.val; omega)).trans ?_
    have e : (⟨T.val + 1, by omega⟩ : Fin 4096) = ⟨1 + T.val, by omega⟩ := Fin.ext (show T.val + 1 = 1 + T.val by omega)
    rw [e]
    rfl
  · refine (dif_neg h).trans (h0.trans ((add_zero _).symm.trans ?_))
    refine congrArg (fun z : EReal => _ + z) (Eq.symm ?_)
    have hn : ¬T.val + 1 < 4096 := by omega
    exact dif_neg hn

/-- The kernel's gradient as the reference computes it, in closed form. -/
theorem rdw_closed (X : FVec Ideal S6x4096x768 .bf16) (D : FVec Ideal S6x32768x384 .fp8e5m2) (S : FVec Ideal S6x4096 .f32)
    (k : Fin 16) (a : Fin 768) (o : Fin 384) :
    rdw X (k0_pay1 D) S (ix3 k a o)
      = dwF (fun b t o => D (ix3 b t o)) (fun b t => S (ix2 b t)) (fun b t a => X (ix3 b t a)) k a o := by
  refine (rdw_at X _ S k a o).trans (Eq.symm ?_)
  exact dwF_halves _ _ _ k a o (fun T => ⟨T.val * 8 + k.val % 8, by omega⟩) (fun T => by show T.val * 8 + k.val % 8 = 8 * T.val + k.val % 8; omega)
    (fun T => ⟨(1 + T.val) * 8 + k.val % 8, by omega⟩) (fun T => by show (1 + T.val) * 8 + k.val % 8 = 8 * (T.val + 1) + k.val % 8; omega)
    (fun T => ⟨1 + T.val, by omega⟩) (fun T => by show 1 + T.val = T.val + 1; omega) (fun T => ⟨T.val, by omega⟩) (fun T => rfl)

end Cert.ReferenceIdeal.Val
-- ==== Proof.Pre.lean ====
module

public import proofs.«01_k».proof.Pre_scale_ok
public import Idealize.ShloMosaic.Lib.ReduceAll
public import Idealize.ShloMosaic.Lib.Affine
public import Idealize.ShloMosaic.Lib.Pipeline.ValueKit

/-!
  The precondition `scale_ok` read back: where it is one, every scale is at least zero and is not infinite.
-/

@[expose] public section

noncomputable section

namespace Cert.Pre_scale_ok.Val

open Idealize.ShloMosaic Cert.Pre_scale_ok

/-- The shape relations the precondition's operations take. -/
theorem facts : Facts := ⟨by decide, by decide, by decide⟩

/-- The number the bit pattern of infinity denotes. -/
theorem inf_bits : Ideal.ofBits .f32 0x7F800000#32 = (⊤ : EReal) := by simp [Ideal.ofBits, Ideal.ieee]

/-- A rank-zero shape has one index. -/
instance one_index : Subsingleton S_.Idx := ⟨fun _ _ => funext fun k => k.elim0⟩

/-- A truth value whose bit is one is true. -/
theorem bit_one {b : Bool} (h : BitVec.ofBool b = 1#1) : b = true := by
  revert h
  cases b <;> decide

/-- Where `scale_ok` holds, each scale is at least zero and below infinity. -/
theorem scales [hF : Facts] (x0 : FVec Ideal S6x4096x768 .bf16) (x1 : FVec Ideal S6x32768x384 .fp8e5m2) (x2 : FVec Ideal S6x4096 .f32)
    (x3 : FVec Ideal S16x768x384 .fp8e4m3) (x4 : FVec Ideal S384 .f32) (h : fn x0 x1 x2 x3 x4 = fun _ => 1#1) (y : S6x4096.Idx) :
    (0 : EReal) ≤ x2 y ∧ x2 y ≠ (⊤ : EReal) := by
  have e := congrFun h (Shape.Idx.first hF.h_S_)
  unfold fn at e
  have e2 := IntOp.andi_eq_one.mp (Host.reduce_andi_all _ _ _ _ _ e y)
  have hge : BitVec.ofBool (decide (Ideal.ofBits .f32 0x00000000#32 ≤ x2 y)) = 1#1 := e2.1
  have hlt : BitVec.ofBool (decide (x2 y < Ideal.ofBits .f32 0x7F800000#32)) = 1#1 := e2.2
  have hge' := of_decide_eq_true (bit_one hge)
  have hlt' := of_decide_eq_true (bit_one hlt)
  have z : Ideal.ofBits .f32 0x00000000#32 = (0 : EReal) := by simp [Ideal.ofBits, Ideal.ieee]
  exact ⟨z ▸ hge', (inf_bits ▸ hlt' : x2 y < (⊤ : EReal)).ne⟩

end Cert.Pre_scale_ok.Val

end
-- ==== Proof.Agree.lean ====
module

public import proofs.«01_k».proof.Defs
public import proofs.«01_k».proof.Proof.KernelVal
public import proofs.«01_k».proof.Proof.RefVal
public import proofs.«01_k».proof.Proof.Pre

/-!
  The two programs' results agree: from memories with the same arguments, both of the reference's results are the
  closed forms the kernel's two output arrays hold.
-/

@[expose] public section

set_option maxRecDepth 16384

noncomputable section

namespace Cert.Agree

open Idealize.ShloMosaic Idealize.ShloMosaic.TcCoe
open Idealize.SL.Sem
open Cert.KernelIdeal.Val (dxArr dwArr)

variable (m : (ℓ : Loc Cert.KernelIdeal.nD Cert.KernelIdeal.τ Cert.KernelIdeal.sig) → Buf (Elt Ideal) ℓ)

/-- The reference's input gradient, of the kernel's arguments, is the kernel's first output: the scales are at least zero and finite. -/
theorem dx_agree (c : Dev Cert.KernelIdeal.nD)
    (hS : ∀ b T, (0 : EReal) ≤ Cert.KernelIdeal.Val.aS m c b T ∧ Cert.KernelIdeal.Val.aS m c b T ≠ (⊤ : EReal)) :
    Cert.ReferenceIdeal.Val.rdx (Cert.ReferenceIdeal.Gen.k0_pay1 (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
        (Cert.ReferenceIdeal.Gen.k0_pay2 (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))
      = dxArr m c := by
  funext y
  obtain ⟨b, T, a, rfl⟩ : ∃ (b : Fin 6) (T : Fin 4096) (a : Fin 768), y = ix3 b T a := ⟨y 0, y 1, y 2, eq_ix3 y⟩
  exact Cert.ReferenceIdeal.Val.rdx_closed _ _ _ _ hS b T a

/-- The reference's kernel gradient, of the kernel's arguments, is the kernel's second output. -/
theorem dw_agree (c : Dev Cert.KernelIdeal.nD) :
    Cert.ReferenceIdeal.Val.rdw (m ((c.tc : Thread Cert.KernelIdeal.nD Cert.KernelIdeal.τ).loc Cert.KernelIdeal.main_arg0))
        (Cert.ReferenceIdeal.Gen.k0_pay1 (m ((c.tc : Thread Cert.KernelIdeal.nD Cert.KernelIdeal.τ).loc Cert.KernelIdeal.main_arg1)))
        (m ((c.tc : Thread Cert.KernelIdeal.nD Cert.KernelIdeal.τ).loc Cert.KernelIdeal.main_arg2))
      = dwArr m c := by
  funext y
  obtain ⟨k, a, o, rfl⟩ : ∃ (k : Fin 16) (a : Fin 768) (o : Fin 384), y = ix3 k a o := ⟨y 0, y 1, y 2, eq_ix3 y⟩
  exact Cert.ReferenceIdeal.Val.rdw_closed _ _ _ k a o

/-- From memories with equal arguments and scales at least zero and finite, the kernel and the reference end with the
    same two results and their arguments as they were. -/
theorem algebraic [Cert.Pre_scale_ok.Facts] : Cert.algebraic_KernelIdeal_ReferenceIdeal_pre_scale_ok := by
  intro m g m' g' hpre hargs
  refine ⟨fun c => dxArr m c, fun c => dwArr m c, Cert.KernelIdeal.Val.run m g, ?_⟩
  refine (θ_run _ _ _).mono (fun r h c => ?_) (Cert.ReferenceIdeal.Val.run m' g')
  obtain ⟨h0, h1, hk⟩ := h c
  obtain ⟨a0, a1, a2, a3, a4⟩ := hargs c
  refine ⟨h0.trans ?_, h1.trans ?_, hk⟩
  · rw [a1, a2, a3, a4]
    exact dx_agree m c fun b T => Cert.Pre_scale_ok.Val.scales _ _ _ _ _ (hpre c) (ix2 b T)
  · rw [a0, a1, a2]
    exact dw_agree m c

end Cert.Agree

end
-- ==== Proof.lean ====
/- The proof of the certificate's claims (`Cert.Claim`, Defs.lean), hand-written. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- Every claim of the certificate: the three frames, with and without the precondition, the idealization's (no operation
    is rewritten), and the equality of both results. -/
theorem claim : Cert.Claim :=
  ⟨Cert.Kernel.Gen.facts, Cert.KernelIdeal.Gen.facts, Cert.ReferenceIdeal.Gen.facts, Cert.Pre_scale_ok.Val.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial,
    @Cert.Agree.algebraic Cert.Pre_scale_ok.Val.facts⟩

end Cert.Proof

end
